-- ==== Defs.lean ====
def Pre_Kernel [hPre_ids_in_tables : Cert.Pre_ids_in_tables.Facts] (m : (ℓ : Loc Cert.Kernel.nD Cert.Kernel.τ Cert.Kernel.sig) → Buf (Elt Bits) ℓ) : Prop :=
  ∀ c : Dev Cert.Kernel.nD,
    (Cert.Pre_ids_in_tables.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_ids_in_tables : Cert.Pre_ids_in_tables.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_tables [hPre_ids_in_tables : Cert.Pre_ids_in_tables.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] [hPre_ids_in_tables : Cert.Pre_ids_in_tables.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] [hPre_ids_in_tables : Cert.Pre_ids_in_tables.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_ids_in_tables [hReferenceIdeal : Cert.ReferenceIdeal.Facts] [hPre_ids_in_tables : Cert.Pre_ids_in_tables.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_tables m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_ids_in_tables : Cert.Pre_ids_in_tables.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_ids_in_tables : Cert.Pre_ids_in_tables.Facts),
    quiescent_Kernel (hKernel := hKernel) (hPre_ids_in_tables := hPre_ids_in_tables)
    ∧ quiescent_KernelIdeal (hKernelIdeal := hKernelIdeal) (hPre_ids_in_tables := hPre_ids_in_tables)
    ∧ quiescent_ReferenceIdeal (hReferenceIdeal := hReferenceIdeal)
    ∧ quiescent_ReferenceIdeal_pre_ids_in_tables (hReferenceIdeal := hReferenceIdeal) (hPre_ids_in_tables := hPre_ids_in_tables)
    ∧ preserves_Kernel_KernelIdeal
    ∧ algebraic_KernelIdeal_ReferenceIdeal (hKernelIdeal := hKernelIdeal) (hReferenceIdeal := hReferenceIdeal) (hPre_ids_in_tables := hPre_ids_in_tables)
-- ==== Pre_ids_in_tables.lean ====
abbrev S16384 : Shape := ⟨1, ![16384]⟩
abbrev S100001x128 : Shape := ⟨2, ![100001, 128]⟩
abbrev S256x64 : Shape := ⟨2, ![256, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S144x1 : Shape := ⟨2, ![144, 1]⟩
abbrev S1 : Shape := ⟨1, ![1]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : IVec S16384 32) (main_arg1 : IVec S16384 32) (main_arg2 : FVec F S100001x128 .f32) (main_arg3 : FVec F S100001x128 .f32) (main_arg4 : FVec F S100001x128 .f32) (main_arg5 : FVec F S100001x128 .f32) (main_arg6 : FVec F S256x64 .f32) (main_arg7 : FVec F S64 .f32) (main_arg8 : FVec F S64x32 .f32) (main_arg9 : FVec F S32 .f32) (main_arg10 : FVec F S32x16 .f32) (main_arg11 : FVec F S16 .f32) (main_arg12 : FVec F S144x1 .f32) (main_arg13 : FVec F S1 .f32) : IVec S_ 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 1 := constantI S_ 1 1#1
  let main_v2 : IVec S_ 1 := (fun x v => Host.reduce IntOp.andi x v reducesTo_S16384_S_d0 h_S_) main_v1 main_c_0
  let main_c_1 : IVec S_ 32 := constantI S_ 32 100000#32
  let main_v3 : IVec S16384 32 := broadcastInDim S16384 ![] bcast_S_S16384 main_c_1
  let main_v4 : IVec S16384 1 := cmpi .slt main_arg0 main_v3
  let main_c_2 : IVec S_ 1 := constantI S_ 1 1#1
  let main_v5 : IVec S_ 1 := (fun x v => Host.reduce IntOp.andi x v reducesTo_S16384_S_d0 h_S_) main_v4 main_c_2
  let main_v6 : IVec S_ 1 := andi main_v2 main_v5
  let main_c_3 : IVec S_ 32 := constantI S_ 32 0#32
  let main_v7 : IVec S16384 32 := broadcastInDim S16384 ![] bcast_S_S16384 main_c_3
  let main_v8 : IVec S16384 1 := cmpi .sge main_arg1 main_v7
  let main_c_4 : IVec S_ 1 := constantI S_ 1 1#1
  let main_v9 : IVec S_ 1 := (fun x v => Host.reduce IntOp.andi x v reducesTo_S16384_S_d0 h_S_) main_v8 main_c_4
  let main_v10 : IVec S_ 1 := andi main_v6 main_v9
  let main_c_5 : IVec S_ 32 := constantI S_ 32 100000#32
  let main_v11 : IVec S16384 32 := broadcastInDim S16384 ![] bcast_S_S16384 main_c_5
  let main_v12 : IVec S16384 1 := cmpi .slt main_arg1 main_v11
  let main_c_6 : IVec S_ 1 := constantI S_ 1 1#1
  let main_v13 : IVec S_ 1 := (fun x v => Host.reduce IntOp.andi x v reducesTo_S16384_S_d0 h_S_) main_v12 main_c_6
  let main_v14 : IVec S_ 1 := andi main_v10 main_v13
  main_v14
-- ==== Kernel.lean ====
abbrev S16384 : Shape := ⟨1, ![16384]⟩
abbrev S100001x128 : Shape := ⟨2, ![100001, 128]⟩
abbrev S256x64 : Shape := ⟨2, ![256, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S144x1 : Shape := ⟨2, ![144, 1]⟩
abbrev S1 : Shape := ⟨1, ![1]⟩
abbrev S16384x128 : Shape := ⟨2, ![16384, 128]⟩
abbrev S4x128 : Shape := ⟨2, ![4, 128]⟩
abbrev S128x128 : Shape := ⟨2, ![128, 128]⟩
abbrev S_ : Shape := ⟨0, ![]⟩
abbrev S1x128 : Shape := ⟨2, ![1, 128]⟩
abbrev S128 : Shape := ⟨1, ![128]⟩
abbrev S128x64 : Shape := ⟨2, ![128, 64]⟩
abbrev S128x1 : Shape := ⟨2, ![128, 1]⟩
abbrev S16x1 : Shape := ⟨2, ![16, 1]⟩
abbrev S1x16 : Shape := ⟨2, ![1, 16]⟩
abbrev S1x64 : Shape := ⟨2, ![1, 64]⟩
abbrev S1x32 : Shape := ⟨2, ![1, 32]⟩
abbrev S1x1 : Shape := ⟨2, ![1, 1]⟩
abbrev S2048x128 : Shape := ⟨2, ![2048, 128]⟩
abbrev S2048 : Shape := ⟨1, ![2048]⟩
abbrev S2048x64 : Shape := ⟨2, ![2048, 64]⟩
abbrev S2048x32 : Shape := ⟨2, ![2048, 32]⟩
abbrev S2048x16 : Shape := ⟨2, ![2048, 16]⟩
abbrev S2048x1 : Shape := ⟨2, ![2048, 1]⟩

abbrev nBuf : Table → Nat
  | .hbm => 31
  | .local .tc .vmem => 20
  | .local .scVector .vmem => 4
  | _ => 0

abbrev bufTy : (tb : Table) → Fin (nBuf tb) → BufTy
  | .hbm, ⟨0, _⟩ => ⟨S16384, .i32⟩
  | .hbm, ⟨1, _⟩ => ⟨S16384, .i32⟩
  | .hbm, ⟨2, _⟩ => ⟨S100001x128, .f32⟩
  | .hbm, ⟨3, _⟩ => ⟨S100001x128, .f32⟩
  | .hbm, ⟨4, _⟩ => ⟨S100001x128, .f32⟩
  | .hbm, ⟨5, _⟩ => ⟨S100001x128, .f32⟩
  | .hbm, ⟨6, _⟩ => ⟨S256x64, .f32⟩
  | .hbm, ⟨7, _⟩ => ⟨S64, .f32⟩
  | .hbm, ⟨8, _⟩ => ⟨S64x32, .f32⟩
  | .hbm, ⟨9, _⟩ => ⟨S32, .f32⟩
  | .hbm, ⟨10, _⟩ => ⟨S32x16, .f32⟩
  | .hbm, ⟨11, _⟩ => ⟨S16, .f32⟩
  | .hbm, ⟨12, _⟩ => ⟨S144x1, .f32⟩
  | .hbm, ⟨13, _⟩ => ⟨S1, .f32⟩
  | .hbm, ⟨14, _⟩ => ⟨S16384x128, .f32⟩
  | .hbm, ⟨15, _⟩ => ⟨S16384x128, .f32⟩
  | .hbm, ⟨16, _⟩ => ⟨S16384x128, .f32⟩
  | .hbm, ⟨17, _⟩ => ⟨S16384x128, .f32⟩
  | .hbm, ⟨18, _⟩ => ⟨S128x64, .f32⟩
  | .hbm, ⟨19, _⟩ => ⟨S128x64, .f32⟩
  | .hbm, ⟨20, _⟩ => ⟨S128x1, .f32⟩
  | .hbm, ⟨21, _⟩ => ⟨S128, .f32⟩
  | .hbm, ⟨22, _⟩ => ⟨S1x128, .f32⟩
  | .hbm, ⟨23, _⟩ => ⟨S16x1, .f32⟩
  | .hbm, ⟨24, _⟩ => ⟨S16, .f32⟩
  | .hbm, ⟨25, _⟩ => ⟨S1x16, .f32⟩
  | .hbm, ⟨26, _⟩ => ⟨S1x64, .f32⟩
  | .hbm, ⟨27, _⟩ => ⟨S1x32, .f32⟩
  | .hbm, ⟨28, _⟩ => ⟨S1x16, .f32⟩
  | .hbm, ⟨29, _⟩ => ⟨S1x1, .f32⟩
  | .hbm, ⟨30, _⟩ => ⟨S16384, .f32⟩
  | .local .tc .vmem, ⟨0, _⟩ => ⟨S2048x128, .f32⟩
  | .local .tc .vmem, ⟨1, _⟩ => ⟨S2048x128, .f32⟩
  | .local .tc .vmem, ⟨2, _⟩ => ⟨S2048x128, .f32⟩
  | .local .tc .vmem, ⟨3, _⟩ => ⟨S2048x128, .f32⟩
  | .local .tc .vmem, ⟨4, _⟩ => ⟨S2048x128, .f32⟩
  | .local .tc .vmem, ⟨5, _⟩ => ⟨S2048x128, .f32⟩
  | .local .tc .vmem, ⟨6, _⟩ => ⟨S2048x128, .f32⟩
  | .local .tc .vmem, ⟨7, _⟩ => ⟨S2048x128, .f32⟩
  | .local .tc .vmem, ⟨8, _⟩ => ⟨S128x64, .f32⟩
  | .local .tc .vmem, ⟨9, _⟩ => ⟨S128x64, .f32⟩
  | .local .tc .vmem, ⟨10, _⟩ => ⟨S1x64, .f32⟩
  | .local .tc .vmem, ⟨11, _⟩ => ⟨S64x32, .f32⟩
  | .local .tc .vmem, ⟨12, _⟩ => ⟨S1x32, .f32⟩
  | .local .tc .vmem, ⟨13, _⟩ => ⟨S32x16, .f32⟩
  | .local .tc .vmem, ⟨14, _⟩ => ⟨S1x16, .f32⟩
  | .local .tc .vmem, ⟨15, _⟩ => ⟨S1x128, .f32⟩
  | .local .tc .vmem, ⟨16, _⟩ => ⟨S1x16, .f32⟩
  | .local .tc .vmem, ⟨17, _⟩ => ⟨S1x1, .f32⟩
  | .local .tc .vmem, ⟨18, _⟩ => ⟨S2048, .f32⟩
  | .local .tc .vmem, ⟨19, _⟩ => ⟨S2048, .f32⟩
  | .local .scVector .vmem, ⟨0, _⟩ => ⟨S4x128, .i32⟩
  | .local .scVector .vmem, ⟨1, _⟩ => ⟨S4x128, .i32⟩
  | .local .scVector .vmem, ⟨2, _⟩ => ⟨S128x128, .f32⟩
  | .local .scVector .vmem, ⟨3, _⟩ => ⟨S128x128, .f32⟩
  | _, _ => ⟨S16384, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 32 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTables nBuf rfl bufTy 4 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0_0 : Ref sig .tc := ⟨.hbm, 14, rfl⟩
abbrev main_v0_1 : Ref sig .tc := ⟨.hbm, 15, rfl⟩
abbrev main_v0_2 : Ref sig .tc := ⟨.hbm, 16, rfl⟩
abbrev main_v0_3 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_arg3_scv : Ref sig .scVector := ⟨.hbm, 3, rfl⟩
abbrev main_arg4_scv : Ref sig .scVector := ⟨.hbm, 4, rfl⟩
abbrev main_arg5_scv : Ref sig .scVector := ⟨.hbm, 5, rfl⟩
abbrev main_v0_0_scv : Ref sig .scVector := ⟨.hbm, 14, rfl⟩
abbrev main_v0_1_scv : Ref sig .scVector := ⟨.hbm, 15, rfl⟩
abbrev main_v0_2_scv : Ref sig .scVector := ⟨.hbm, 16, rfl⟩
abbrev main_v0_3_scv : Ref sig .scVector := ⟨.hbm, 17, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg5_0 : Ref sig .tc := ⟨.vmem, 9, rfl⟩
abbrev cc1_stg6_0 : Ref sig .tc := ⟨.vmem, 10, rfl⟩
abbrev cc1_stg7_0 : Ref sig .tc := ⟨.vmem, 11, rfl⟩
abbrev cc1_stg8_0 : Ref sig .tc := ⟨.vmem, 12, rfl⟩
abbrev cc1_stg9_0 : Ref sig .tc := ⟨.vmem, 13, rfl⟩
abbrev cc1_stg10_0 : Ref sig .tc := ⟨.vmem, 14, rfl⟩
abbrev cc1_stg11_0 : Ref sig .tc := ⟨.vmem, 15, rfl⟩
abbrev cc1_stg12_0 : Ref sig .tc := ⟨.vmem, 16, rfl⟩
abbrev cc1_stg13_0 : Ref sig .tc := ⟨.vmem, 17, rfl⟩
abbrev cc1_stg14_0 : Ref sig .tc := ⟨.vmem, 18, rfl⟩
abbrev cc1_stg14_1 : Ref sig .tc := ⟨.vmem, 19, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem10_0 : DmaSem sig := 26
abbrev cc1_sem11_0 : DmaSem sig := 27
abbrev cc1_sem12_0 : DmaSem sig := 28
abbrev cc1_sem13_0 : DmaSem sig := 29
abbrev cc1_sem14_0 : DmaSem sig := 30
abbrev cc1_sem14_1 : DmaSem sig := 31
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v3 : BitVec 32 := Scalar.addi v2 c0_i32
  ![v3.toNat]
def k0_off2 (i : grid0.Coords) (c0_i32_14 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v14 : BitVec 32 := Scalar.addi v2 c0_i32_14
  let c0_i32_23 : BitVec 32 := 0#32
  ![v14.toNat, 0]
abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 1 → Nat :=
  let arg0 : BitVec 32 := BitVec.ofNat 32 (i 0).val
  let c0_i32 : BitVec 32 := 0#32
  ![arg0.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2048x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x32 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x32 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S32x16 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x16 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x16 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x1 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 2 → Memref sig .tc .vmem S2048 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384 : Shape := ⟨1, ![16384]⟩
abbrev S100001x128 : Shape := ⟨2, ![100001, 128]⟩
abbrev S256x64 : Shape := ⟨2, ![256, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S144x1 : Shape := ⟨2, ![144, 1]⟩
abbrev S1 : Shape := ⟨1, ![1]⟩
abbrev S_ : Shape := ⟨0, ![]⟩
abbrev S16384x1 : Shape := ⟨2, ![16384, 1]⟩
abbrev S1x1 : Shape := ⟨2, ![1, 1]⟩
abbrev S16384x128 : Shape := ⟨2, ![16384, 128]⟩
abbrev S16384x256 : Shape := ⟨2, ![16384, 256]⟩
abbrev S16384x64 : Shape := ⟨2, ![16384, 64]⟩
abbrev S1x64 : Shape := ⟨2, ![1, 64]⟩
abbrev S16384x32 : Shape := ⟨2, ![16384, 32]⟩
abbrev S1x32 : Shape := ⟨2, ![1, 32]⟩
abbrev S16384x16 : Shape := ⟨2, ![16384, 16]⟩
abbrev S1x16 : Shape := ⟨2, ![1, 16]⟩
abbrev S16384x144 : Shape := ⟨2, ![16384, 144]⟩

abbrev nBuf : Space → Nat
  | .hbm => 143
  | .vmem => 0
  | .smem => 0
  | _ => 0

abbrev hbmTy0_0 (i : Nat) : BufTy := match i % 128 with
  | 0 => ⟨S16384, .i32⟩
  | 1 => ⟨S16384, .i32⟩
  | 2 => ⟨S100001x128, .f32⟩
  | 3 => ⟨S100001x128, .f32⟩
  | 4 => ⟨S100001x128, .f32⟩
  | 5 => ⟨S100001x128, .f32⟩
  | 6 => ⟨S256x64, .f32⟩
  | 7 => ⟨S64, .f32⟩
  | 8 => ⟨S64x32, .f32⟩
  | 9 => ⟨S32, .f32⟩
  | 10 => ⟨S32x16, .f32⟩
  | 11 => ⟨S16, .f32⟩
  | 12 => ⟨S144x1, .f32⟩
  | 13 => ⟨S1, .f32⟩
  | 14 => ⟨S_, .i32⟩
  | 15 => ⟨S16384, .i32⟩
  | 16 => ⟨S16384, .i1⟩
  | 17 => ⟨S_, .i32⟩
  | 18 => ⟨S16384, .i32⟩
  | 19 => ⟨S16384, .i32⟩
  | 20 => ⟨S16384, .i32⟩
  | 21 => ⟨S16384x1, .i32⟩
  | 22 => ⟨S1, .i32⟩
  | 23 => ⟨S_, .i32⟩
  | 24 => ⟨S16384x1, .i32⟩
  | 25 => ⟨S16384x1, .i1⟩
  | 26 => ⟨S1x1, .i32⟩
  | 27 => ⟨S16384x1, .i32⟩
  | 28 => ⟨S16384x1, .i1⟩
  | 29 => ⟨S16384x1, .i1⟩
  | 30 => ⟨S_, .i1⟩
  | 31 => ⟨S16384, .i1⟩
  | 32 => ⟨S16384x128, .f32⟩
  | 33 => ⟨S16384x128, .i1⟩
  | 34 => ⟨S_, .f32⟩
  | 35 => ⟨S16384x128, .f32⟩
  | 36 => ⟨S16384x128, .f32⟩
  | 37 => ⟨S_, .i32⟩
  | 38 => ⟨S16384, .i32⟩
  | 39 => ⟨S16384, .i1⟩
  | 40 => ⟨S_, .i32⟩
  | 41 => ⟨S16384, .i32⟩
  | 42 => ⟨S16384, .i32⟩
  | 43 => ⟨S16384, .i32⟩
  | 44 => ⟨S16384x1, .i32⟩
  | 45 => ⟨S1, .i32⟩
  | 46 => ⟨S_, .i32⟩
  | 47 => ⟨S16384x1, .i32⟩
  | 48 => ⟨S16384x1, .i1⟩
  | 49 => ⟨S1x1, .i32⟩
  | 50 => ⟨S16384x1, .i32⟩
  | 51 => ⟨S16384x1, .i1⟩
  | 52 => ⟨S16384x1, .i1⟩
  | 53 => ⟨S_, .i1⟩
  | 54 => ⟨S16384, .i1⟩
  | 55 => ⟨S16384x128, .f32⟩
  | 56 => ⟨S16384x128, .i1⟩
  | 57 => ⟨S_, .f32⟩
  | 58 => ⟨S16384x128, .f32⟩
  | 59 => ⟨S16384x128, .f32⟩
  | 60 => ⟨S16384x128, .f32⟩
  | 61 => ⟨S_, .i32⟩
  | 62 => ⟨S16384, .i32⟩
  | 63 => ⟨S16384, .i1⟩
  | 64 => ⟨S_, .i32⟩
  | 65 => ⟨S16384, .i32⟩
  | 66 => ⟨S16384, .i32⟩
  | 67 => ⟨S16384, .i32⟩
  | 68 => ⟨S16384x1, .i32⟩
  | 69 => ⟨S1, .i32⟩
  | 70 => ⟨S_, .i32⟩
  | 71 => ⟨S16384x1, .i32⟩
  | 72 => ⟨S16384x1, .i1⟩
  | 73 => ⟨S1x1, .i32⟩
  | 74 => ⟨S16384x1, .i32⟩
  | 75 => ⟨S16384x1, .i1⟩
  | 76 => ⟨S16384x1, .i1⟩
  | 77 => ⟨S_, .i1⟩
  | 78 => ⟨S16384, .i1⟩
  | 79 => ⟨S16384x128, .f32⟩
  | 80 => ⟨S16384x128, .i1⟩
  | 81 => ⟨S_, .f32⟩
  | 82 => ⟨S16384x128, .f32⟩
  | 83 => ⟨S16384x128, .f32⟩
  | 84 => ⟨S_, .i32⟩
  | 85 => ⟨S16384, .i32⟩
  | 86 => ⟨S16384, .i1⟩
  | 87 => ⟨S_, .i32⟩
  | 88 => ⟨S16384, .i32⟩
  | 89 => ⟨S16384, .i32⟩
  | 90 => ⟨S16384, .i32⟩
  | 91 => ⟨S16384x1, .i32⟩
  | 92 => ⟨S1, .i32⟩
  | 93 => ⟨S_, .i32⟩
  | 94 => ⟨S16384x1, .i32⟩
  | 95 => ⟨S16384x1, .i1⟩
  | 96 => ⟨S1x1, .i32⟩
  | 97 => ⟨S16384x1, .i32⟩
  | 98 => ⟨S16384x1, .i1⟩
  | 99 => ⟨S16384x1, .i1⟩
  | 100 => ⟨S_, .i1⟩
  | 101 => ⟨S16384, .i1⟩
  | 102 => ⟨S16384x128, .f32⟩
  | 103 => ⟨S16384x128, .i1⟩
  | 104 => ⟨S_, .f32⟩
  | 105 => ⟨S16384x128, .f32⟩
  | 106 => ⟨S16384x128, .f32⟩
  | 107 => ⟨S16384x256, .f32⟩
  | 108 => ⟨S16384x64, .f32⟩
  | 109 => ⟨S1x64, .f32⟩
  | 110 => ⟨S16384x64, .f32⟩
  | 111 => ⟨S16384x64, .f32⟩
  | 112 => ⟨S_, .f32⟩
  | 113 => ⟨S16384x64, .f32⟩
  | 114 => ⟨S16384x64, .f32⟩
  | 115 => ⟨S16384x32, .f32⟩
  | 116 => ⟨S1x32, .f32⟩
  | 117 => ⟨S16384x32, .f32⟩
  | 118 => ⟨S16384x32, .f32⟩
  | 119 => ⟨S_, .f32⟩
  | 120 => ⟨S16384x32, .f32⟩
  | 121 => ⟨S16384x32, .f32⟩
  | 122 => ⟨S16384x16, .f32⟩
  | 123 => ⟨S1x16, .f32⟩
  | 124 => ⟨S16384x16, .f32⟩
  | 125 => ⟨S16384x16, .f32⟩
  | 126 => ⟨S_, .f32⟩
  | 127 => ⟨S16384x16, .f32⟩
  | _ => ⟨S16384, .i32⟩

abbrev hbmTy0_1 (i : Nat) : BufTy := match i % 128 with
  | 0 => ⟨S16384x16, .f32⟩
  | 1 => ⟨S16384x144, .f32⟩
  | 2 => ⟨S16384x1, .f32⟩
  | 3 => ⟨S1x1, .f32⟩
  | 4 => ⟨S16384x1, .f32⟩
  | 5 => ⟨S16384x1, .f32⟩
  | 6 => ⟨S16384x1, .f32⟩
  | 7 => ⟨S16384x1, .f32⟩
  | 8 => ⟨S_, .f32⟩
  | 9 => ⟨S16384x1, .f32⟩
  | 10 => ⟨S16384x1, .f32⟩
  | 11 => ⟨S_, .f32⟩
  | 12 => ⟨S16384x1, .f32⟩
  | 13 => ⟨S16384x1, .f32⟩
  | 14 => ⟨S16384, .f32⟩
  | _ => ⟨S16384, .i32⟩

abbrev hbmTy (i : Nat) : BufTy := match i / 128 with
  | 0 => hbmTy0_0 i
  | 1 => hbmTy0_1 i
  | _ => ⟨S16384, .i32⟩

abbrev bufTy : (tb : Table) → Fin (tcTables nBuf tb) → BufTy
  | .hbm, ⟨i, _⟩ => hbmTy i
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v0 : Ref sig .tc := ⟨.hbm, 36, rfl⟩
abbrev main_call1_c : Ref sig .tc := ⟨.hbm, 37, rfl⟩
abbrev main_call1_v0 : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_c_1 : Ref sig .tc := ⟨.hbm, 45, rfl⟩
abbrev main_call1_c_2 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_3 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_call1_cst : Ref sig .tc := ⟨.hbm, 57, rfl⟩
abbrev main_call1_v15 : Ref sig .tc := ⟨.hbm, 58, rfl⟩
abbrev main_v1 : Ref sig .tc := ⟨.hbm, 59, rfl⟩
abbrev main_v2 : Ref sig .tc := ⟨.hbm, 60, rfl⟩
abbrev main_call2_c : Ref sig .tc := ⟨.hbm, 61, rfl⟩
abbrev main_call2_v0 : Ref sig .tc := ⟨.hbm, 62, rfl⟩
abbrev main_call2_v1 : Ref sig .tc := ⟨.hbm, 63, rfl⟩
abbrev main_call2_c_0 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_call2_v5 : Ref sig .tc := ⟨.hbm, 68, rfl⟩
abbrev main_call2_c_1 : Ref sig .tc := ⟨.hbm, 69, rfl⟩
abbrev main_call2_c_2 : Ref sig .tc := ⟨.hbm, 70, rfl⟩
abbrev main_call2_v6 : Ref sig .tc := ⟨.hbm, 71, rfl⟩
abbrev main_call2_v7 : Ref sig .tc := ⟨.hbm, 72, rfl⟩
abbrev main_call2_v8 : Ref sig .tc := ⟨.hbm, 73, rfl⟩
abbrev main_call2_v9 : Ref sig .tc := ⟨.hbm, 74, rfl⟩
abbrev main_call2_v10 : Ref sig .tc := ⟨.hbm, 75, rfl⟩
abbrev main_call2_v11 : Ref sig .tc := ⟨.hbm, 76, rfl⟩
abbrev main_call2_c_3 : Ref sig .tc := ⟨.hbm, 77, rfl⟩
abbrev main_call2_v12 : Ref sig .tc := ⟨.hbm, 78, rfl⟩
abbrev main_call2_v13 : Ref sig .tc := ⟨.hbm, 79, rfl⟩
abbrev main_call2_v14 : Ref sig .tc := ⟨.hbm, 80, rfl⟩
abbrev main_call2_cst : Ref sig .tc := ⟨.hbm, 81, rfl⟩
abbrev main_call2_v15 : Ref sig .tc := ⟨.hbm, 82, rfl⟩
abbrev main_v3 : Ref sig .tc := ⟨.hbm, 83, rfl⟩
abbrev main_call3_c : Ref sig .tc := ⟨.hbm, 84, rfl⟩
abbrev main_call3_v0 : Ref sig .tc := ⟨.hbm, 85, rfl⟩
abbrev main_call3_v1 : Ref sig .tc := ⟨.hbm, 86, rfl⟩
abbrev main_call3_c_0 : Ref sig .tc := ⟨.hbm, 87, rfl⟩
abbrev main_call3_v2 : Ref sig .tc := ⟨.hbm, 88, rfl⟩
abbrev main_call3_v3 : Ref sig .tc := ⟨.hbm, 89, rfl⟩
abbrev main_call3_v4 : Ref sig .tc := ⟨.hbm, 90, rfl⟩
abbrev main_call3_v5 : Ref sig .tc := ⟨.hbm, 91, rfl⟩
abbrev main_call3_c_1 : Ref sig .tc := ⟨.hbm, 92, rfl⟩
abbrev main_call3_c_2 : Ref sig .tc := ⟨.hbm, 93, rfl⟩
abbrev main_call3_v6 : Ref sig .tc := ⟨.hbm, 94, rfl⟩
abbrev main_call3_v7 : Ref sig .tc := ⟨.hbm, 95, rfl⟩
abbrev main_call3_v8 : Ref sig .tc := ⟨.hbm, 96, rfl⟩
abbrev main_call3_v9 : Ref sig .tc := ⟨.hbm, 97, rfl⟩
abbrev main_call3_v10 : Ref sig .tc := ⟨.hbm, 98, rfl⟩
abbrev main_call3_v11 : Ref sig .tc := ⟨.hbm, 99, rfl⟩
abbrev main_call3_c_3 : Ref sig .tc := ⟨.hbm, 100, rfl⟩
abbrev main_call3_v12 : Ref sig .tc := ⟨.hbm, 101, rfl⟩
abbrev main_call3_v13 : Ref sig .tc := ⟨.hbm, 102, rfl⟩
abbrev main_call3_v14 : Ref sig .tc := ⟨.hbm, 103, rfl⟩
abbrev main_call3_cst : Ref sig .tc := ⟨.hbm, 104, rfl⟩
abbrev main_call3_v15 : Ref sig .tc := ⟨.hbm, 105, rfl⟩
abbrev main_v4 : Ref sig .tc := ⟨.hbm, 106, rfl⟩
abbrev main_v5 : Ref sig .tc := ⟨.hbm, 107, rfl⟩
abbrev main_v6 : Ref sig .tc := ⟨.hbm, 108, rfl⟩
abbrev main_v7 : Ref sig .tc := ⟨.hbm, 109, rfl⟩
abbrev main_v8 : Ref sig .tc := ⟨.hbm, 110, rfl⟩
abbrev main_v9 : Ref sig .tc := ⟨.hbm, 111, rfl⟩
abbrev main_call4_cst : Ref sig .tc := ⟨.hbm, 112, rfl⟩
abbrev main_call4_v0 : Ref sig .tc := ⟨.hbm, 113, rfl⟩
abbrev main_v10 : Ref sig .tc := ⟨.hbm, 114, rfl⟩
abbrev main_v11 : Ref sig .tc := ⟨.hbm, 115, rfl⟩
abbrev main_v12 : Ref sig .tc := ⟨.hbm, 116, rfl⟩
abbrev main_v13 : Ref sig .tc := ⟨.hbm, 117, rfl⟩
abbrev main_v14 : Ref sig .tc := ⟨.hbm, 118, rfl⟩
abbrev main_call5_cst : Ref sig .tc := ⟨.hbm, 119, rfl⟩
abbrev main_call5_v0 : Ref sig .tc := ⟨.hbm, 120, rfl⟩
abbrev main_v15 : Ref sig .tc := ⟨.hbm, 121, rfl⟩
abbrev main_v16 : Ref sig .tc := ⟨.hbm, 122, rfl⟩
abbrev main_v17 : Ref sig .tc := ⟨.hbm, 123, rfl⟩
abbrev main_v18 : Ref sig .tc := ⟨.hbm, 124, rfl⟩
abbrev main_v19 : Ref sig .tc := ⟨.hbm, 125, rfl⟩
abbrev main_call6_cst : Ref sig .tc := ⟨.hbm, 126, rfl⟩
abbrev main_call6_v0 : Ref sig .tc := ⟨.hbm, 127, rfl⟩
abbrev main_v20 : Ref sig .tc := ⟨.hbm, 128, rfl⟩
abbrev main_v21 : Ref sig .tc := ⟨.hbm, 129, rfl⟩
abbrev main_v22 : Ref sig .tc := ⟨.hbm, 130, rfl⟩
abbrev main_v23 : Ref sig .tc := ⟨.hbm, 131, rfl⟩
abbrev main_v24 : Ref sig .tc := ⟨.hbm, 132, rfl⟩
abbrev main_v25 : Ref sig .tc := ⟨.hbm, 133, rfl⟩
abbrev main_v26 : Ref sig .tc := ⟨.hbm, 134, rfl⟩
abbrev main_v27 : Ref sig .tc := ⟨.hbm, 135, rfl⟩
abbrev main_cst : Ref sig .tc := ⟨.hbm, 136, rfl⟩
abbrev main_v28 : Ref sig .tc := ⟨.hbm, 137, rfl⟩
abbrev main_v29 : Ref sig .tc := ⟨.hbm, 138, rfl⟩
abbrev main_cst_0 : Ref sig .tc := ⟨.hbm, 139, rfl⟩
abbrev main_v30 : Ref sig .tc := ⟨.hbm, 140, rfl⟩
abbrev main_v31 : Ref sig .tc := ⟨.hbm, 141, rfl⟩
abbrev main_v32 : Ref sig .tc := ⟨.hbm, 142, rfl⟩

abbrev nD : Nat := 1
abbrev τ : Topo := Topo.v7x

variable {F : FTy → Type} [FloatOps F]
-- ==== Proof.Ids.lean ====
/-
  What the precondition says, read back from its printed form: both id lists name rows of the tables.
-/
module

public import proofs.«01_k».proof.Defs
public import proofs.«01_k».proof.Proof.Gen.Pre_ids_in_tables
public import Idealize.ShloMosaic.Lib.ReduceAll

@[expose] public section

noncomputable section

namespace Cert.Proof.Ids

open Cert.Pre_ids_in_tables Cert.Pre_ids_in_tables.Gen
open Idealize.ShloMosaic

/-- A word that is at least 0 and below 100000 as a signed number is below 100000 as a natural number. -/
theorem word_range (x : BitVec 32) (h0 : IntOp.cmpi .sge x 0#32 = 1#1) (h1 : IntOp.cmpi .slt x 100000#32 = 1#1) :
    x.toNat < 100000 := by
  rw [IntOp.cmpi_sge] at h0
  rw [IntOp.cmpi_slt] at h1
  have e0 : (0#32 : BitVec 32).toInt = 0 := by decide
  have e1 : (100000#32 : BitVec 32).toInt = 100000 := by decide
  rw [e0] at h0
  rw [e1] at h1
  rw [BitVec.toInt_eq_toNat_cond] at h0 h1
  split at h0 <;> omega

/-- The precondition gives every user id and every item id a range: below 100000. -/
theorem range {F : FTy → Type} [FloatOps F] (u i : IVec S16384 32) (a2 a3 a4 a5 : FVec F S100001x128 .f32)
    (a6 : FVec F S256x64 .f32) (a7 : FVec F S64 .f32) (a8 : FVec F S64x32 .f32) (a9 : FVec F S32 .f32)
    (a10 : FVec F S32x16 .f32) (a11 : FVec F S16 .f32) (a12 : FVec F S144x1 .f32) (a13 : FVec F S1 .f32)
    (h : fn (F := F) u i a2 a3 a4 a5 a6 a7 a8 a9 a10 a11 a12 a13 = fun _ => 1#1) (x : S16384.Idx) :
    (u x).toNat < 100000 ∧ (i x).toNat < 100000 := by
  haveI : Subsingleton S_.Idx := ⟨fun a b => funext fun k => k.elim0⟩
  have e := congrFun h (fun k => k.elim0)
  unfold fn at e
  obtain ⟨e', h3⟩ := IntOp.andi_eq_one.1 e
  obtain ⟨e'', h2⟩ := IntOp.andi_eq_one.1 e'
  obtain ⟨h0, h1⟩ := IntOp.andi_eq_one.1 e''
  exact ⟨word_range _ (Host.reduce_andi_all _ _ _ _ _ h0 x) (Host.reduce_andi_all _ _ _ _ _ h1 x),
    word_range _ (Host.reduce_andi_all _ _ _ _ _ h2 x) (Host.reduce_andi_all _ _ _ _ _ h3 x)⟩

end Cert.Proof.Ids

end
-- ==== Proof.Ideal.Tile.lean ====
/-
  The SparseCore call of the kernel, one tile at a time.

  Tile (core `L 0`, subcore `L 1`) owns rows `[1024 * subcore + 512 * core, +512)` of the four gathered arrays. It copies
  its 512 user ids and 512 item ids into two 4x128 scratch buffers, row by row, then works through sixteen gathers (four
  tables, four chunks of 128 rows), alternating between two 128x128 staging buffers: while one gather fills a staging
  buffer the other buffer is written out. `tile_run` runs that body once, at a symbolic tile, and states the contents of
  every chunk it leaves behind.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Ideal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program and its resources -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The ghost state: the SparseCore handshakes' rounds, the TensorCore pipeline's rounds, the transfers' counters. -/
abbrev UH : Type := URounds (GSem nD τ sig) ℕ
abbrev UK : Type := URounds (GSem nD τ sig) Unit
abbrev UU : Type := UH × (UK × Counters)

local notation "𝕄" => MT nD τ sig (HIx 1) (Elt F) ℕ UU ℕ

variable (m : (ℓ : Loc nD τ sig) → Buf (Elt F) ℓ)

/-! ## The memory references of the body, as the body spells them -/

local notation "uidsV" => (Memref.whole Cert.KernelIdeal.main_arg0_scv : Memref Cert.KernelIdeal.sig Kind.scVector Space.hbm Cert.KernelIdeal.S16384 EltTy.i32)
local notation "iidsV" => (Memref.whole Cert.KernelIdeal.main_arg1_scv : Memref Cert.KernelIdeal.sig Kind.scVector Space.hbm Cert.KernelIdeal.S16384 EltTy.i32)
local notation "t0V" => (Memref.whole Cert.KernelIdeal.main_arg2_scv : Memref Cert.KernelIdeal.sig Kind.scVector Space.hbm Cert.KernelIdeal.S100001x128 EltTy.f32)
local notation "t1V" => (Memref.whole Cert.KernelIdeal.main_arg3_scv : Memref Cert.KernelIdeal.sig Kind.scVector Space.hbm Cert.KernelIdeal.S100001x128 EltTy.f32)
local notation "t2V" => (Memref.whole Cert.KernelIdeal.main_arg4_scv : Memref Cert.KernelIdeal.sig Kind.scVector Space.hbm Cert.KernelIdeal.S100001x128 EltTy.f32)
local notation "t3V" => (Memref.whole Cert.KernelIdeal.main_arg5_scv : Memref Cert.KernelIdeal.sig Kind.scVector Space.hbm Cert.KernelIdeal.S100001x128 EltTy.f32)
local notation "o0V" => (Memref.whole Cert.KernelIdeal.main_v0_0_scv : Memref Cert.KernelIdeal.sig Kind.scVector Space.hbm Cert.KernelIdeal.S16384x128 EltTy.f32)
local notation "o1V" => (Memref.whole Cert.KernelIdeal.main_v0_1_scv : Memref Cert.KernelIdeal.sig Kind.scVector Space.hbm Cert.KernelIdeal.S16384x128 EltTy.f32)
local notation "o2V" => (Memref.whole Cert.KernelIdeal.main_v0_2_scv : Memref Cert.KernelIdeal.sig Kind.scVector Space.hbm Cert.KernelIdeal.S16384x128 EltTy.f32)
local notation "o3V" => (Memref.whole Cert.KernelIdeal.main_v0_3_scv : Memref Cert.KernelIdeal.sig Kind.scVector Space.hbm Cert.KernelIdeal.S16384x128 EltTy.f32)
local notation "luV" => (Memref.whole Cert.KernelIdeal.cc0_scratch0 : Memref Cert.KernelIdeal.sig Kind.scVector Space.vmem Cert.KernelIdeal.S4x128 EltTy.i32)
local notation "liV" => (Memref.whole Cert.KernelIdeal.cc0_scratch1 : Memref Cert.KernelIdeal.sig Kind.scVector Space.vmem Cert.KernelIdeal.S4x128 EltTy.i32)
local notation "saV" => (Memref.whole Cert.KernelIdeal.cc0_scratch2 : Memref Cert.KernelIdeal.sig Kind.scVector Space.vmem Cert.KernelIdeal.S128x128 EltTy.f32)
local notation "sbV" => (Memref.whole Cert.KernelIdeal.cc0_scratch3 : Memref Cert.KernelIdeal.sig Kind.scVector Space.vmem Cert.KernelIdeal.S128x128 EltTy.f32)

abbrev cV (L : grid0.Coords) : Fin τ.nSC := (L 0).castLE hcore0
abbrev jV (L : grid0.Coords) : Fin τ.nSub := (L 1).castLE hsub0
abbrev VT (d : Dev nD) (L : grid0.Coords) : Thread nD τ := V d (cV L) (jV L)

/-- Row `k` of a 4x128 list buffer, as a 128-word list. -/
abbrev row0 (l : Memref sig .scVector .vmem S4x128 .i32) : Memref sig .scVector .vmem S128 .i32 :=
  (l.slice (Rect.unit (s := S4x128) ![0, 0] S1x128.size inb_S4x128_S1x128_0_0) (fun _ => rfl)).squeeze S128 squeezes_S1x128_S128
abbrev row1 (l : Memref sig .scVector .vmem S4x128 .i32) : Memref sig .scVector .vmem S128 .i32 :=
  (l.slice (Rect.unit (s := S4x128) ![1, 0] S1x128.size inb_S4x128_S1x128_1_0) (fun _ => rfl)).squeeze S128 squeezes_S1x128_S128
abbrev row2 (l : Memref sig .scVector .vmem S4x128 .i32) : Memref sig .scVector .vmem S128 .i32 :=
  (l.slice (Rect.unit (s := S4x128) ![2, 0] S1x128.size inb_S4x128_S1x128_2_0) (fun _ => rfl)).squeeze S128 squeezes_S1x128_S128
abbrev row3 (l : Memref sig .scVector .vmem S4x128 .i32) : Memref sig .scVector .vmem S128 .i32 :=
  (l.slice (Rect.unit (s := S4x128) ![3, 0] S1x128.size inb_S4x128_S1x128_3_0) (fun _ => rfl)).squeeze S128 squeezes_S1x128_S128

/-- Chunk `k` (128 rows) of a gathered array, the tile's own. -/
abbrev out0 (L : grid0.Coords) (o : Memref sig .scVector .hbm S16384x128 .f32) : Memref sig .scVector .hbm S128x128 .f32 :=
  o.slice (Rect.unit (s := S16384x128) (k0_off2 L 0#32) S128x128.size (k0_off2_inb L 0)) (fun _ => rfl)
abbrev out1 (L : grid0.Coords) (o : Memref sig .scVector .hbm S16384x128 .f32) : Memref sig .scVector .hbm S128x128 .f32 :=
  o.slice (Rect.unit (s := S16384x128) (k0_off2 L 128#32) S128x128.size (k0_off2_inb L 1)) (fun _ => rfl)
abbrev out2 (L : grid0.Coords) (o : Memref sig .scVector .hbm S16384x128 .f32) : Memref sig .scVector .hbm S128x128 .f32 :=
  o.slice (Rect.unit (s := S16384x128) (k0_off2 L 256#32) S128x128.size (k0_off2_inb L 2)) (fun _ => rfl)
abbrev out3 (L : grid0.Coords) (o : Memref sig .scVector .hbm S16384x128 .f32) : Memref sig .scVector .hbm S128x128 .f32 :=
  o.slice (Rect.unit (s := S16384x128) (k0_off2 L 384#32) S128x128.size (k0_off2_inb L 3)) (fun _ => rfl)

/-- The twelve transfer semaphores the body names, all at zero. -/
abbrev csem (k : Nat) (hk : k < 32 := by decide) : DmaSem sig := ⟨k, hk⟩
abbrev cells0 (d : Dev nD) (L : grid0.Coords) : sProp 𝕄 :=
  iprop(semVal (VT d L, SemLoc.dma (csem 0)) 0 ∗ semVal (VT d L, SemLoc.dma (csem 1)) 0 ∗ semVal (VT d L, SemLoc.dma (csem 2)) 0
    ∗ semVal (VT d L, SemLoc.dma (csem 3)) 0 ∗ semVal (VT d L, SemLoc.dma (csem 4)) 0 ∗ semVal (VT d L, SemLoc.dma (csem 5)) 0
    ∗ semVal (VT d L, SemLoc.dma (csem 6)) 0 ∗ semVal (VT d L, SemLoc.dma (csem 7)) 0 ∗ semVal (VT d L, SemLoc.dma (csem 8)) 0
    ∗ semVal (VT d L, SemLoc.dma (csem 9)) 0 ∗ semVal (VT d L, SemLoc.dma (csem 10)) 0 ∗ semVal (VT d L, SemLoc.dma (csem 11)) 0)

/-! ## What the call computes -/

/-- The embedding lookup: row `j 0` of the result is the row of `tab` that id `j 0` names. -/
def gat (ids : S16384.Idx → Elt F .i32) (tab : S100001x128.Idx → Elt F .f32) : S16384x128.Idx → Elt F .f32 :=
  fun j => tab (fun | 0 => ⟨(ids (fun | 0 => j 0)).toNat % 100001, Nat.mod_lt _ (by decide)⟩ | 1 => j 1)

/-- One gather's payload, at a chunk starting at row `b`: when the list is the ids from position `b` on and the source is
    the whole table, element `x` is the lookup's element at row `b + x 0`. -/
theorem gather_val (ids : S16384.Idx → Elt F .i32) (tab : S100001x128.Idx → Elt F .f32)
    (a1 : Fin 1 → ℕ) (h1 : ∀ a, a1 a + S128.size a ≤ S16384.size a)
    (a2 : Fin 2 → ℕ) (h2 : ∀ a, a2 a + S128x128.size a ≤ S16384x128.size a) (b : ℕ) (e1 : a1 = ![b]) (e2 : a2 = ![b, 0])
    (hids : ∀ j, (ids j).toNat < 100001)
    (g : S100001x128.Idx → Elt F .f32) (h0 : ∀ a, (![0, 0] : Fin 2 → ℕ) a + S100001x128.size a ≤ S100001x128.size a)
    (hg : ∀ y, g y = tab ((Rect.unit (s := S100001x128) ![0, 0] S100001x128.size h0).emb y))
    (l : S128.Idx → Elt F .i32) (hl : ∀ y, l y = ids ((Rect.unit (s := S16384) a1 S128.size h1).emb y))
    (hgs : S100001x128.Gathers 0 S128x128) (hn : S128.numel = S128x128.size hgs.axis')
    (hin : ∀ x, (l x).toNat < S100001x128.size hgs.axis) (x : S128x128.Idx) :
    SparseCore.gatherPayload hgs g (SparseCore.rows l hn hin) x
      = gat ids tab ((Rect.unit (s := S16384x128) a2 S128x128.size h2).emb x) := by
  subst e1 e2
  unfold SparseCore.gatherPayload gat
  rw [hg]
  congr 1
  funext a
  match a with
  | 0 =>
    apply Fin.ext
    show 0 + 1 * (hgs.idx (SparseCore.rows l hn hin) x hgs.axis).val = _
    rw [Shape.Gathers.idx_axis]
    show 0 + 1 * (l _).toNat = (ids _).toNat % 100001
    rw [hl, Nat.mod_eq_of_lt (hids _), Nat.zero_add, Nat.one_mul]
    congr 2
    funext c
    match c with
    | 0 =>
      apply Fin.ext
      show b + 1 * ((S128.rowMajor.symm ((x hgs.axis').cast hn.symm)) 0).val = b + 1 * (x 0).val
      rw [← Shape.rowMajor_val_one, Equiv.apply_symm_apply]
      rfl
  | 1 =>
    apply Fin.ext
    show 0 + 1 * (hgs.idx (SparseCore.rows l hn hin) x 1).val = 0 + 1 * (x 1).val
    rw [Shape.Gathers.idx_of_ne _ _ _ _ (by decide)]
    rfl

section Tile

variable [FloatOps F] (d : Dev nD) (L : grid0.Coords)

/-- The four rows of a list buffer, each at some contents. -/
abbrev rowsAny (l : Memref sig .scVector .vmem S4x128 .i32) : sProp 𝕄 :=
  iprop((∃ f, (row0 l).view.loc (VT d L) ↦[(row0 l).view.set]{fullShare} f)
    ∗ (∃ f, (row1 l).view.loc (VT d L) ↦[(row1 l).view.set]{fullShare} f)
    ∗ (∃ f, (row2 l).view.loc (VT d L) ↦[(row2 l).view.set]{fullShare} f)
    ∗ (∃ f, (row3 l).view.loc (VT d L) ↦[(row3 l).view.set]{fullShare} f))

/-- The tile's four chunks of a gathered array, at contents `f`. -/
abbrev outs4 (o : Memref sig .scVector .hbm S16384x128 .f32) (f : Buf (Elt F) (o.view.loc (VT d L))) : sProp 𝕄 :=
  iprop(((out0 L o).view.loc (VT d L) ↦[(out0 L o).view.set]{fullShare} f)
    ∗ ((out1 L o).view.loc (VT d L) ↦[(out1 L o).view.set]{fullShare} f)
    ∗ ((out2 L o).view.loc (VT d L) ↦[(out2 L o).view.set]{fullShare} f)
    ∗ ((out3 L o).view.loc (VT d L) ↦[(out3 L o).view.set]{fullShare} f))

/-- A list row that a whole 128-word copy has just filled reads back as that copy, so its words are rows of a table
    whenever the copied words are. -/
theorem list_lt (v : View sig .scVector .vmem S128 .i32) (g : Buf (Elt F) (v.loc (VT d L))) (p : S128.Idx → Elt F .i32)
    (hp : ∀ x, (p x).toNat < 100001) :
    ∀ x, (v.read (Elt F) (v.writes (Elt F) g [⟨Rect.whole S128, p⟩]) x).toNat < 100001 := by
  intro x; rw [View.read_writes_whole]; exact hp x

/-- A staging buffer read after a gather into it holds what the gather put there. -/
theorem stage_val (st : View sig .scVector .vmem S128x128 .f32) (h : Buf (Elt F) (st.loc (VT d L)))
    (gp : S128x128.Idx → Elt F .f32) (rest : List (View.Piece (Elt F) S128x128 .f32)) (val : S128x128.Idx → Elt F .f32)
    (hG : ∀ x, gp x = val x) (x : S128x128.Idx) :
    ReadAs.same.apply (st.read (Elt F) (st.writes (Elt F) h (⟨Rect.whole S128x128, gp⟩ :: rest))) x = val x := by
  have e : st.read (Elt F) (st.writes (Elt F) h (⟨Rect.whole S128x128, gp⟩ :: rest)) = gp := by
    funext y
    have h := View.read_writes_cons_emb (Val := Elt F) st h (Rect.whole S128x128) gp rest y
    rwa [Rect.emb_whole_apply] at h
  exact (congrFun e x).trans (hG x)

/-- A chunk that was written whole with a value's elements holds that value. -/
theorem chunk_done (v : View sig .scVector .hbm S128x128 .f32)
    (g : Buf (Elt F) (v.loc (VT d L))) (G : Buf (Elt F) (v.loc (VT d L))) (P : S128x128.Idx → Elt F .f32) :
    (v.loc (VT d L) ↦[v.set]{fullShare} v.writes (Elt F) g [⟨Rect.whole S128x128, P⟩] : sProp 𝕄)
      ⊢ iprop(⌜∀ x, P x = v.read (Elt F) G x⌝ -∗ v.loc (VT d L) ↦[v.set]{fullShare} G) := by
  iintro H %hG
  iapply (Entails.of_eq (pointsTo_congr (f := v.writes (Elt F) g [⟨Rect.whole S128x128, P⟩]) (g := G) fun i hi => by
    obtain ⟨x, -, rfl⟩ := Finset.mem_map.mp hi
    have h1 := congrFun (View.read_writes_whole (Val := Elt F) v g P) x
    rw [hG, View.read_apply, View.read_apply] at h1
    exact eq_of_heq ((cast_heq _ _).symm.trans ((heq_of_eq h1).trans (cast_heq _ _)))))
  iexact H

/-- What a tile works on, apart from the gathered arrays: the ids and tables at its shares (each table's share as two read
    tokens, one for each of the two gathers in flight), its list rows, staging buffers and semaphores. -/
abbrev tools (q : PosShare TreeShare) (fu : Buf (Elt F) ((uidsV).view.loc (VT d L))) (fi : Buf (Elt F) ((iidsV).view.loc (VT d L)))
    (f0 : Buf (Elt F) ((t0V).view.loc (VT d L))) (f1 : Buf (Elt F) ((t1V).view.loc (VT d L)))
    (f2 : Buf (Elt F) ((t2V).view.loc (VT d L))) (f3 : Buf (Elt F) ((t3V).view.loc (VT d L))) : sProp 𝕄 :=
  iprop(((uidsV).view.loc (VT d L) ↦{q} fu) ∗ ((iidsV).view.loc (VT d L) ↦{q} fi)
    ∗ ((t0V).view.loc (VT d L) ↦{Transfers.shareTokN q 0} f0) ∗ ((t0V).view.loc (VT d L) ↦{Transfers.shareTokN q 1} f0)
    ∗ ((t1V).view.loc (VT d L) ↦{Transfers.shareTokN q 0} f1) ∗ ((t1V).view.loc (VT d L) ↦{Transfers.shareTokN q 1} f1)
    ∗ ((t2V).view.loc (VT d L) ↦{Transfers.shareTokN q 0} f2) ∗ ((t2V).view.loc (VT d L) ↦{Transfers.shareTokN q 1} f2)
    ∗ ((t3V).view.loc (VT d L) ↦{Transfers.shareTokN q 0} f3) ∗ ((t3V).view.loc (VT d L) ↦{Transfers.shareTokN q 1} f3)
    ∗ rowsAny d L luV ∗ rowsAny d L liV
    ∗ (∃ h, (saV).view.loc (VT d L) ↦[(saV).view.set]{fullShare} h) ∗ (∃ h, (sbV).view.loc (VT d L) ↦[(sbV).view.set]{fullShare} h)
    ∗ cells0 d L)

/-- The body of the SparseCore call at tile `L`: started from the ids (all rows of a table), the tables and its own chunks of
    the four gathered arrays, it ends with those chunks holding the lookups and everything else as it was. -/
theorem tile_run (fu : S16384.Idx → Elt F .i32) (fi : S16384.Idx → Elt F .i32)
    (hfu : ∀ x : S16384.Idx, (fu x).toNat < 100001) (hfi : ∀ x : S16384.Idx, (fi x).toNat < 100001)
    (O : CellTallies nD τ sig (HIx 1)) (W : Waits sig (HIx 1)) (q : PosShare TreeShare)
    (f0 f1 f2 f3 : S100001x128.Idx → Elt F .f32) (g0 g1 g2 g3 : S16384x128.Idx → Elt F .f32) :
    (iprop(Transfers.MayWaits (VT d L) (default : HIx 1) O ∗ tools d L q fu fi f0 f1 f2 f3
        ∗ outs4 d L o0V g0 ∗ outs4 d L o1V g1 ∗ outs4 d L o2V g2 ∗ outs4 d L o3V g3
        ∗ owes (VT d L) O W) : sProp 𝕄)
      ⊢ wp frame (wpE (defs₀ (F := F)) 𝒱₀ (VT d L) none) Set.univ
          (cc0__sc_gather_body L uidsV (Memref.isWhole_whole _) iidsV (Memref.isWhole_whole _)
            t0V (Memref.isWhole_whole _) t1V (Memref.isWhole_whole _) t2V (Memref.isWhole_whole _) t3V (Memref.isWhole_whole _)
            o0V (Memref.isWhole_whole _) o1V (Memref.isWhole_whole _) o2V (Memref.isWhole_whole _) o3V (Memref.isWhole_whole _)
            luV (Memref.isWhole_whole _) liV (Memref.isWhole_whole _) saV (Memref.isWhole_whole _) sbV (Memref.isWhole_whole _)
            cc0_scratch4 cc0_scratch5 cc0_scratch6 cc0_scratch7
            cc0_scoped0 cc0_scoped1 cc0_scoped2 cc0_scoped3 cc0_scoped4 cc0_scoped5 cc0_scoped6 cc0_scoped7)
          fun _ => iprop(tools d L q fu fi f0 f1 f2 f3
            ∗ outs4 d L o0V (gat fu f0) ∗ outs4 d L o1V (gat fi f1) ∗ outs4 d L o2V (gat fu f2) ∗ outs4 d L o3V (gat fi f3)
            ∗ ∃ W', owes (VT d L) O W') := by
  iintro ⟨#Hmw, ⟨HU, HI, HT00, HT01, HT10, HT11, HT20, HT21, HT30, HT31,
      ⟨⟨%r0, HR0⟩, ⟨%r1, HR1⟩, ⟨%r2, HR2⟩, ⟨%r3, HR3⟩⟩, ⟨⟨%s0, HQ0⟩, ⟨%s1, HQ1⟩, ⟨%s2, HQ2⟩, ⟨%s3, HQ3⟩⟩, ⟨%ha, HA⟩, ⟨%hb, HB⟩,
      ⟨Hc0, Hc1, Hc2, Hc3, Hc4, Hc5, Hc6, Hc7, Hc8, Hc9, Hc10, Hc11⟩⟩,
    ⟨HO00, HO01, HO02, HO03⟩, ⟨HO10, HO11, HO12, HO13⟩, ⟨HO20, HO21, HO22, HO23⟩, ⟨HO30, HO31, HO32, HO33⟩, HO⟩
  sl_unfold [cc0__sc_gather_body]
  sl_exec
  -- every word of every list row is an id, so a row of each table
  have hu0 := fun g => list_lt (F := F) d L (row0 luV).view g (tile_run.sl.dma0 L fu) (fun x => hfu _)
  have hu1 := fun g => list_lt (F := F) d L (row1 luV).view g (tile_run.sl.dma0_2 L fu) (fun x => hfu _)
  have hu2 := fun g => list_lt (F := F) d L (row2 luV).view g (tile_run.sl.dma0_4 L fu) (fun x => hfu _)
  have hu3 := fun g => list_lt (F := F) d L (row3 luV).view g (tile_run.sl.dma0_6 L fu) (fun x => hfu _)
  have hi0 := fun g => list_lt (F := F) d L (row0 liV).view g (tile_run.sl.dma0_1 L fi) (fun x => hfi _)
  have hi1 := fun g => list_lt (F := F) d L (row1 liV).view g (tile_run.sl.dma0_3 L fi) (fun x => hfi _)
  have hi2 := fun g => list_lt (F := F) d L (row2 liV).view g (tile_run.sl.dma0_5 L fi) (fun x => hfi _)
  have hi3 := fun g => list_lt (F := F) d L (row3 liV).view g (tile_run.sl.dma0_7 L fi) (fun x => hfi _)
  sl_exec
  sl_step
  isplitr [HO00 HO01 HO02 HO03 HO10 HO11 HO12 HO13 HO20 HO21 HO22 HO23 HO30 HO31 HO32 HO33 HO]
  · isplitl [HU]; · iexact HU
    isplitl [HI]; · iexact HI
    isplitl [HT00]; · iexact HT00
    isplitl [HT01]; · iexact HT01
    isplitl [HT10]; · iexact HT10
    isplitl [HT11]; · iexact HT11
    isplitl [HT20]; · iexact HT20
    isplitl [HT21]; · iexact HT21
    isplitl [HT30]; · iexact HT30
    isplitl [HT31]; · iexact HT31
    isplitl [HR0 HR1 HR2 HR3]
    · isplitl [HR0]; · iexists _; iexact HR0
      isplitl [HR1]; · iexists _; iexact HR1
      isplitl [HR2]; · iexists _; iexact HR2
      iexists _; iexact HR3
    isplitl [HQ0 HQ1 HQ2 HQ3]
    · isplitl [HQ0]; · iexists _; iexact HQ0
      isplitl [HQ1]; · iexists _; iexact HQ1
      isplitl [HQ2]; · iexists _; iexact HQ2
      iexists _; iexact HQ3
    isplitl [HA]; · iexists _; iexact HA
    isplitl [HB]; · iexists _; iexact HB
    isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    isplitl [Hc9]; · iexact Hc9
    isplitl [Hc10]; · iexact Hc10
    iexact Hc11
  isplitl [HO00 HO01 HO02 HO03]
  · isplitl [HO00]
    · iapply (chunk_done d L (out0 L o0V).view g0 (gat fu f0) _) $$ HO00
      ipureintro; exact stage_val d L (saV).view ha _ _ _
        (gather_val fu f0 _ (k0_off1_inb L 0) _ (k0_off2_inb L 0) _ (k0_off1_eq L 0) (k0_off2_eq L 0) hfu _
          inb_S100001x128_S100001x128_0_0 (fun _ => rfl) _
          (congrFun (View.read_writes_whole (row0 luV).view _ (tile_run.sl.dma0 L fu))) _ _ _)
    isplitl [HO01]
    · iapply (chunk_done d L (out1 L o0V).view g0 (gat fu f0) _) $$ HO01
      ipureintro; exact stage_val d L (sbV).view hb _ _ _
        (gather_val fu f0 _ (k0_off1_inb L 1) _ (k0_off2_inb L 1) _ (k0_off1_eq L 1) (k0_off2_eq L 1) hfu _
          inb_S100001x128_S100001x128_0_0 (fun _ => rfl) _
          (congrFun (View.read_writes_whole (row1 luV).view _ (tile_run.sl.dma0_2 L fu))) _ _ _)
    isplitl [HO02]
    · iapply (chunk_done d L (out2 L o0V).view g0 (gat fu f0) _) $$ HO02
      ipureintro; exact stage_val d L (saV).view ha _ _ _
        (gather_val fu f0 _ (k0_off1_inb L 2) _ (k0_off2_inb L 2) _ (k0_off1_eq L 2) (k0_off2_eq L 2) hfu _
          inb_S100001x128_S100001x128_0_0 (fun _ => rfl) _
          (congrFun (View.read_writes_whole (row2 luV).view _ (tile_run.sl.dma0_4 L fu))) _ _ _)
    iapply (chunk_done d L (out3 L o0V).view g0 (gat fu f0) _) $$ HO03
    ipureintro; exact stage_val d L (sbV).view hb _ _ _
      (gather_val fu f0 _ (k0_off1_inb L 3) _ (k0_off2_inb L 3) _ (k0_off1_eq L 3) (k0_off2_eq L 3) hfu _
        inb_S100001x128_S100001x128_0_0 (fun _ => rfl) _
        (congrFun (View.read_writes_whole (row3 luV).view _ (tile_run.sl.dma0_6 L fu))) _ _ _)
  isplitl [HO10 HO11 HO12 HO13]
  · isplitl [HO10]
    · iapply (chunk_done d L (out0 L o1V).view g1 (gat fi f1) _) $$ HO10
      ipureintro; exact stage_val d L (saV).view ha _ _ _
        (gather_val fi f1 _ (k0_off1_inb L 0) _ (k0_off2_inb L 0) _ (k0_off1_eq L 0) (k0_off2_eq L 0) hfi _
          inb_S100001x128_S100001x128_0_0 (fun _ => rfl) _
          (congrFun (View.read_writes_whole (row0 liV).view _ (tile_run.sl.dma0_1 L fi))) _ _ _)
    isplitl [HO11]
    · iapply (chunk_done d L (out1 L o1V).view g1 (gat fi f1) _) $$ HO11
      ipureintro; exact stage_val d L (sbV).view hb _ _ _
        (gather_val fi f1 _ (k0_off1_inb L 1) _ (k0_off2_inb L 1) _ (k0_off1_eq L 1) (k0_off2_eq L 1) hfi _
          inb_S100001x128_S100001x128_0_0 (fun _ => rfl) _
          (congrFun (View.read_writes_whole (row1 liV).view _ (tile_run.sl.dma0_3 L fi))) _ _ _)
    isplitl [HO12]
    · iapply (chunk_done d L (out2 L o1V).view g1 (gat fi f1) _) $$ HO12
      ipureintro; exact stage_val d L (saV).view ha _ _ _
        (gather_val fi f1 _ (k0_off1_inb L 2) _ (k0_off2_inb L 2) _ (k0_off1_eq L 2) (k0_off2_eq L 2) hfi _
          inb_S100001x128_S100001x128_0_0 (fun _ => rfl) _
          (congrFun (View.read_writes_whole (row2 liV).view _ (tile_run.sl.dma0_5 L fi))) _ _ _)
    iapply (chunk_done d L (out3 L o1V).view g1 (gat fi f1) _) $$ HO13
    ipureintro; exact stage_val d L (sbV).view hb _ _ _
      (gather_val fi f1 _ (k0_off1_inb L 3) _ (k0_off2_inb L 3) _ (k0_off1_eq L 3) (k0_off2_eq L 3) hfi _
        inb_S100001x128_S100001x128_0_0 (fun _ => rfl) _
        (congrFun (View.read_writes_whole (row3 liV).view _ (tile_run.sl.dma0_7 L fi))) _ _ _)
  isplitl [HO20 HO21 HO22 HO23]
  · isplitl [HO20]
    · iapply (chunk_done d L (out0 L o2V).view g2 (gat fu f2) _) $$ HO20
      ipureintro; exact stage_val d L (saV).view ha _ _ _
        (gather_val fu f2 _ (k0_off1_inb L 0) _ (k0_off2_inb L 0) _ (k0_off1_eq L 0) (k0_off2_eq L 0) hfu _
          inb_S100001x128_S100001x128_0_0 (fun _ => rfl) _
          (congrFun (View.read_writes_whole (row0 luV).view _ (tile_run.sl.dma0 L fu))) _ _ _)
    isplitl [HO21]
    · iapply (chunk_done d L (out1 L o2V).view g2 (gat fu f2) _) $$ HO21
      ipureintro; exact stage_val d L (sbV).view hb _ _ _
        (gather_val fu f2 _ (k0_off1_inb L 1) _ (k0_off2_inb L 1) _ (k0_off1_eq L 1) (k0_off2_eq L 1) hfu _
          inb_S100001x128_S100001x128_0_0 (fun _ => rfl) _
          (congrFun (View.read_writes_whole (row1 luV).view _ (tile_run.sl.dma0_2 L fu))) _ _ _)
    isplitl [HO22]
    · iapply (chunk_done d L (out2 L o2V).view g2 (gat fu f2) _) $$ HO22
      ipureintro; exact stage_val d L (saV).view ha _ _ _
        (gather_val fu f2 _ (k0_off1_inb L 2) _ (k0_off2_inb L 2) _ (k0_off1_eq L 2) (k0_off2_eq L 2) hfu _
          inb_S100001x128_S100001x128_0_0 (fun _ => rfl) _
          (congrFun (View.read_writes_whole (row2 luV).view _ (tile_run.sl.dma0_4 L fu))) _ _ _)
    iapply (chunk_done d L (out3 L o2V).view g2 (gat fu f2) _) $$ HO23
    ipureintro; exact stage_val d L (sbV).view hb _ _ _
      (gather_val fu f2 _ (k0_off1_inb L 3) _ (k0_off2_inb L 3) _ (k0_off1_eq L 3) (k0_off2_eq L 3) hfu _
        inb_S100001x128_S100001x128_0_0 (fun _ => rfl) _
        (congrFun (View.read_writes_whole (row3 luV).view _ (tile_run.sl.dma0_6 L fu))) _ _ _)
  isplitl [HO30 HO31 HO32 HO33]
  · isplitl [HO30]
    · iapply (chunk_done d L (out0 L o3V).view g3 (gat fi f3) _) $$ HO30
      ipureintro; exact stage_val d L (saV).view ha _ _ _
        (gather_val fi f3 _ (k0_off1_inb L 0) _ (k0_off2_inb L 0) _ (k0_off1_eq L 0) (k0_off2_eq L 0) hfi _
          inb_S100001x128_S100001x128_0_0 (fun _ => rfl) _
          (congrFun (View.read_writes_whole (row0 liV).view _ (tile_run.sl.dma0_1 L fi))) _ _ _)
    isplitl [HO31]
    · iapply (chunk_done d L (out1 L o3V).view g3 (gat fi f3) _) $$ HO31
      ipureintro; exact stage_val d L (sbV).view hb _ _ _
        (gather_val fi f3 _ (k0_off1_inb L 1) _ (k0_off2_inb L 1) _ (k0_off1_eq L 1) (k0_off2_eq L 1) hfi _
          inb_S100001x128_S100001x128_0_0 (fun _ => rfl) _
          (congrFun (View.read_writes_whole (row1 liV).view _ (tile_run.sl.dma0_3 L fi))) _ _ _)
    isplitl [HO32]
    · iapply (chunk_done d L (out2 L o3V).view g3 (gat fi f3) _) $$ HO32
      ipureintro; exact stage_val d L (saV).view ha _ _ _
        (gather_val fi f3 _ (k0_off1_inb L 2) _ (k0_off2_inb L 2) _ (k0_off1_eq L 2) (k0_off2_eq L 2) hfi _
          inb_S100001x128_S100001x128_0_0 (fun _ => rfl) _
          (congrFun (View.read_writes_whole (row2 liV).view _ (tile_run.sl.dma0_5 L fi))) _ _ _)
    iapply (chunk_done d L (out3 L o3V).view g3 (gat fi f3) _) $$ HO33
    ipureintro; exact stage_val d L (sbV).view hb _ _ _
      (gather_val fi f3 _ (k0_off1_inb L 3) _ (k0_off2_inb L 3) _ (k0_off1_eq L 3) (k0_off2_eq L 3) hfi _
        inb_S100001x128_S100001x128_0_0 (fun _ => rfl) _
        (congrFun (View.read_writes_whole (row3 liV).view _ (tile_run.sl.dma0_7 L fi))) _ _ _)
  iexists _; iexact HO

end Tile

end Cert.Proof.Ideal
-- ==== Proof.Ideal.Body.lean ====
/-
  From one tile's run to the whole SparseCore call: what the call hands each tile, that the tile's run is the obligation
  the launch asks for, and that the tiles' pieces together are the arrays whole.
-/
module

public import proofs.«01_k».proof.Proof.Ideal.Tile

@[expose] public section

noncomputable section

namespace Cert.Proof.Ideal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "uidsV" => (Memref.whole Cert.KernelIdeal.main_arg0_scv : Memref Cert.KernelIdeal.sig Kind.scVector Space.hbm Cert.KernelIdeal.S16384 EltTy.i32)
local notation "iidsV" => (Memref.whole Cert.KernelIdeal.main_arg1_scv : Memref Cert.KernelIdeal.sig Kind.scVector Space.hbm Cert.KernelIdeal.S16384 EltTy.i32)
local notation "t0V" => (Memref.whole Cert.KernelIdeal.main_arg2_scv : Memref Cert.KernelIdeal.sig Kind.scVector Space.hbm Cert.KernelIdeal.S100001x128 EltTy.f32)
local notation "t1V" => (Memref.whole Cert.KernelIdeal.main_arg3_scv : Memref Cert.KernelIdeal.sig Kind.scVector Space.hbm Cert.KernelIdeal.S100001x128 EltTy.f32)
local notation "t2V" => (Memref.whole Cert.KernelIdeal.main_arg4_scv : Memref Cert.KernelIdeal.sig Kind.scVector Space.hbm Cert.KernelIdeal.S100001x128 EltTy.f32)
local notation "t3V" => (Memref.whole Cert.KernelIdeal.main_arg5_scv : Memref Cert.KernelIdeal.sig Kind.scVector Space.hbm Cert.KernelIdeal.S100001x128 EltTy.f32)
local notation "o0V" => (Memref.whole Cert.KernelIdeal.main_v0_0_scv : Memref Cert.KernelIdeal.sig Kind.scVector Space.hbm Cert.KernelIdeal.S16384x128 EltTy.f32)
local notation "o1V" => (Memref.whole Cert.KernelIdeal.main_v0_1_scv : Memref Cert.KernelIdeal.sig Kind.scVector Space.hbm Cert.KernelIdeal.S16384x128 EltTy.f32)
local notation "o2V" => (Memref.whole Cert.KernelIdeal.main_v0_2_scv : Memref Cert.KernelIdeal.sig Kind.scVector Space.hbm Cert.KernelIdeal.S16384x128 EltTy.f32)
local notation "o3V" => (Memref.whole Cert.KernelIdeal.main_v0_3_scv : Memref Cert.KernelIdeal.sig Kind.scVector Space.hbm Cert.KernelIdeal.S16384x128 EltTy.f32)
local notation "luV" => (Memref.whole Cert.KernelIdeal.cc0_scratch0 : Memref Cert.KernelIdeal.sig Kind.scVector Space.vmem Cert.KernelIdeal.S4x128 EltTy.i32)
local notation "liV" => (Memref.whole Cert.KernelIdeal.cc0_scratch1 : Memref Cert.KernelIdeal.sig Kind.scVector Space.vmem Cert.KernelIdeal.S4x128 EltTy.i32)
local notation "saV" => (Memref.whole Cert.KernelIdeal.cc0_scratch2 : Memref Cert.KernelIdeal.sig Kind.scVector Space.vmem Cert.KernelIdeal.S128x128 EltTy.f32)
local notation "sbV" => (Memref.whole Cert.KernelIdeal.cc0_scratch3 : Memref Cert.KernelIdeal.sig Kind.scVector Space.vmem Cert.KernelIdeal.S128x128 EltTy.f32)

variable (m : (ℓ : Loc nD τ sig) → Buf (Elt F) ℓ)

/-! ## Read shares: one per tile -/

/-- A way to cut any share into `n` that add up to it. -/
def Cuts {n : ℕ} (a : PosShare TreeShare → Fin n → PosShare TreeShare) : Prop :=
  ∀ (F : FTy → Type) (ℓ : Loc nD τ sig) (f : Buf (Elt F) ℓ) (q : PosShare TreeShare),
    (ℓ ↦{q} f : sProp (MT nD τ sig (HIx 1) (Elt F) ℕ UU ℕ)) = bigSep Finset.univ fun i => ℓ ↦{a q i} f

/-- The two halves of a share. -/
def halves (q : PosShare TreeShare) : Fin 2 → PosShare TreeShare | 0 => q.left | 1 => q.right

theorem halves_cuts : Cuts halves := fun F ℓ f q => by
  rw [bigSep_fin_two]
  exact BI.Entails.antisymm (pointsTo_share (PosShare.mem_left_op_right q)).1 (pointsTo_share (PosShare.mem_left_op_right q)).2

/-- Cutting every part of a cut again. -/
def cutTwice {n k : ℕ} (a : PosShare TreeShare → Fin n → PosShare TreeShare) (b : PosShare TreeShare → Fin k → PosShare TreeShare) :
    PosShare TreeShare → Fin (n * k) → PosShare TreeShare :=
  fun q i => b (a q (finProdFinEquiv.symm i).1) (finProdFinEquiv.symm i).2

theorem cutTwice_cuts {n k : ℕ} {a : PosShare TreeShare → Fin n → PosShare TreeShare} {b : PosShare TreeShare → Fin k → PosShare TreeShare}
    (ha : Cuts a) (hb : Cuts b) : Cuts (cutTwice a b) := fun F ℓ f q => by
  rw [bigSep_univ_equiv finProdFinEquiv (fun i => (ℓ ↦{cutTwice a b q i} f : sProp (MT nD τ sig (HIx 1) (Elt F) ℕ UU ℕ))),
    BI.bigSep_univ_prod, ha F ℓ f q]
  refine bigSep_congr fun i _ => ?_
  rw [hb F ℓ f (a q i)]
  refine bigSep_congr fun j _ => ?_
  unfold cutTwice
  rw [Equiv.symm_apply_apply]

/-- A share cut into sixteen. -/
def sixteenths : PosShare TreeShare → Fin 16 → PosShare TreeShare :=
  cutTwice (cutTwice halves halves) (cutTwice halves halves)

theorem sixteenths_cuts : Cuts sixteenths :=
  cutTwice_cuts (cutTwice_cuts halves_cuts halves_cuts) (cutTwice_cuts halves_cuts halves_cuts)

/-- The share of the ids and tables that tile `(c, i)` reads under. -/
abbrev tq (c : Fin 2) (i : Fin 16) : PosShare TreeShare := sixteenths (halves fullShare c) i

/-! ## The arrays of the call, and the tiles' chunks of the gathered ones -/

abbrev uLoc (d : Dev nD) : Loc nD τ sig := (SparseCore.T d).loc main_arg0
abbrev iLoc (d : Dev nD) : Loc nD τ sig := (SparseCore.T d).loc main_arg1
abbrev t0Loc (d : Dev nD) : Loc nD τ sig := (SparseCore.T d).loc main_arg2
abbrev t1Loc (d : Dev nD) : Loc nD τ sig := (SparseCore.T d).loc main_arg3
abbrev t2Loc (d : Dev nD) : Loc nD τ sig := (SparseCore.T d).loc main_arg4
abbrev t3Loc (d : Dev nD) : Loc nD τ sig := (SparseCore.T d).loc main_arg5
abbrev o0Loc (d : Dev nD) : Loc nD τ sig := (SparseCore.T d).loc main_v0_0
abbrev o1Loc (d : Dev nD) : Loc nD τ sig := (SparseCore.T d).loc main_v0_1
abbrev o2Loc (d : Dev nD) : Loc nD τ sig := (SparseCore.T d).loc main_v0_2
abbrev o3Loc (d : Dev nD) : Loc nD τ sig := (SparseCore.T d).loc main_v0_3

/-- The grid coordinates of tile `(c, s)`. -/
def coordsV (c : Fin (grid0.bound 0)) (s : Fin (grid0.bound 1)) : grid0.Coords :=
  fun | 0 => c | 1 => s | ⟨_ + 2, h⟩ => absurd h (Nat.not_lt.2 (Nat.le_add_left _ _))

/-- Chunk `k` of tile `L`: 128 rows from row `1024 * subcore + 512 * core + 128 * k` on. -/
abbrev chunkRect (L : grid0.Coords) (k : Fin 4) : Rect S16384x128 :=
  Rect.unit (s := S16384x128) (k0_off2 L (BitVec.ofNat 32 (128 * k.val))) S128x128.size (k0_off2_inb L k)
abbrev chunk (L : grid0.Coords) (k : Fin 4) : Finset S16384x128.Idx := (chunkRect L k).set

/-- The chunk that one triple (core, subcore, number) names. -/
abbrev chunkOf (p : Fin 2 × Fin 16 × Fin 4) : Finset S16384x128.Idx := chunk (coordsV p.1 p.2.1) p.2.2

theorem mem_chunkOf (p : Fin 2 × Fin 16 × Fin 4) (x : S16384x128.Idx) :
    x ∈ chunkOf p ↔ 1024 * p.2.1.val + 512 * p.1.val + 128 * p.2.2.val ≤ (x 0).val
      ∧ (x 0).val < 1024 * p.2.1.val + 512 * p.1.val + 128 * p.2.2.val + 128 := by
  have e := k0_off2_eq (coordsV p.1 p.2.1) p.2.2
  have h1 : (x 1).val < 128 := (x 1).isLt
  rw [Rect.mem_set_unit]
  constructor
  · intro h
    have h0 := h 0
    rw [e] at h0
    exact h0
  · intro h a
    rw [e]
    match a with
    | 0 => exact h
    | 1 => exact ⟨Nat.zero_le _, by show (x 1).val < 0 + 128; omega⟩

theorem chunks_disjoint : ∀ p ∈ (Finset.univ : Finset (Fin 2 × Fin 16 × Fin 4)), ∀ p' ∈ (Finset.univ : Finset (Fin 2 × Fin 16 × Fin 4)),
    p ≠ p' → Disjoint (chunkOf p) (chunkOf p') := fun p _ p' _ h => by
  refine Finset.disjoint_left.mpr fun x hx hx' => h ?_
  rw [mem_chunkOf] at hx hx'
  obtain ⟨c, i, k⟩ := p
  obtain ⟨c', i', k'⟩ := p'
  simp only at hx hx'
  have e1 : i = i' := Fin.ext (by omega)
  have e2 : c = c' := Fin.ext (by omega)
  have e3 : k = k' := Fin.ext (by omega)
  rw [e1, e2, e3]

theorem chunks_cover : (Finset.univ : Finset (Fin 2 × Fin 16 × Fin 4)).biUnion chunkOf = Finset.univ := by
  refine Finset.eq_univ_of_forall fun x => Finset.mem_biUnion.mpr ?_
  have h0 : (x 0).val < 16384 := (x 0).isLt
  refine ⟨(⟨(x 0).val / 512 % 2, by omega⟩, ⟨(x 0).val / 1024, by omega⟩, ⟨(x 0).val / 128 % 4, by omega⟩), Finset.mem_univ _, ?_⟩
  rw [mem_chunkOf]
  simp only
  omega

/-- The four chunks of tile `L` in a gathered array holding `f`. -/
abbrev oC0 (d : Dev nD) (L : grid0.Coords) (f : Buf (Elt F) (o0Loc d)) : sProp 𝕄 := bigSep Finset.univ fun k : Fin 4 => o0Loc d ↦[chunk L k]{fullShare} f
abbrev oC1 (d : Dev nD) (L : grid0.Coords) (f : Buf (Elt F) (o1Loc d)) : sProp 𝕄 := bigSep Finset.univ fun k : Fin 4 => o1Loc d ↦[chunk L k]{fullShare} f
abbrev oC2 (d : Dev nD) (L : grid0.Coords) (f : Buf (Elt F) (o2Loc d)) : sProp 𝕄 := bigSep Finset.univ fun k : Fin 4 => o2Loc d ↦[chunk L k]{fullShare} f
abbrev oC3 (d : Dev nD) (L : grid0.Coords) (f : Buf (Elt F) (o3Loc d)) : sProp 𝕄 := bigSep Finset.univ fun k : Fin 4 => o3Loc d ↦[chunk L k]{fullShare} f

theorem o0_chunks (d : Dev nD) (f : Buf (Elt F) (o0Loc d)) :
    (o0Loc d ↦{fullShare} f : sProp 𝕄) = bigSep Finset.univ fun c : Fin 2 => bigSep Finset.univ fun i : Fin 16 => oC0 d (coordsV c i) f := by
  have h := pointsTo_biUnion (Ix := HIx 1) (Name := ℕ) (U := UU) (Lvl := ℕ) Finset.univ (ℓ := o0Loc d) (q := fullShare) (f := f) chunkOf chunks_disjoint
  rw [chunks_cover, BI.bigSep_univ_prod] at h
  exact h.trans (bigSep_congr fun c _ => BI.bigSep_univ_prod _)
theorem o1_chunks (d : Dev nD) (f : Buf (Elt F) (o1Loc d)) :
    (o1Loc d ↦{fullShare} f : sProp 𝕄) = bigSep Finset.univ fun c : Fin 2 => bigSep Finset.univ fun i : Fin 16 => oC1 d (coordsV c i) f := by
  have h := pointsTo_biUnion (Ix := HIx 1) (Name := ℕ) (U := UU) (Lvl := ℕ) Finset.univ (ℓ := o1Loc d) (q := fullShare) (f := f) chunkOf chunks_disjoint
  rw [chunks_cover, BI.bigSep_univ_prod] at h
  exact h.trans (bigSep_congr fun c _ => BI.bigSep_univ_prod _)
theorem o2_chunks (d : Dev nD) (f : Buf (Elt F) (o2Loc d)) :
    (o2Loc d ↦{fullShare} f : sProp 𝕄) = bigSep Finset.univ fun c : Fin 2 => bigSep Finset.univ fun i : Fin 16 => oC2 d (coordsV c i) f := by
  have h := pointsTo_biUnion (Ix := HIx 1) (Name := ℕ) (U := UU) (Lvl := ℕ) Finset.univ (ℓ := o2Loc d) (q := fullShare) (f := f) chunkOf chunks_disjoint
  rw [chunks_cover, BI.bigSep_univ_prod] at h
  exact h.trans (bigSep_congr fun c _ => BI.bigSep_univ_prod _)
theorem o3_chunks (d : Dev nD) (f : Buf (Elt F) (o3Loc d)) :
    (o3Loc d ↦{fullShare} f : sProp 𝕄) = bigSep Finset.univ fun c : Fin 2 => bigSep Finset.univ fun i : Fin 16 => oC3 d (coordsV c i) f := by
  have h := pointsTo_biUnion (Ix := HIx 1) (Name := ℕ) (U := UU) (Lvl := ℕ) Finset.univ (ℓ := o3Loc d) (q := fullShare) (f := f) chunkOf chunks_disjoint
  rw [chunks_cover, BI.bigSep_univ_prod] at h
  exact h.trans (bigSep_congr fun c _ => BI.bigSep_univ_prod _)

/-- A whole array read by everyone is every tile's share of it. -/
theorem pts_tiles (ℓ : Loc nD τ sig) (f : Buf (Elt F) ℓ) :
    (ℓ ↦{fullShare} f : sProp 𝕄) = bigSep Finset.univ fun c : Fin 2 => bigSep Finset.univ fun i : Fin 16 => ℓ ↦{tq c i} f := by
  rw [halves_cuts F ℓ f fullShare]
  exact bigSep_congr fun c _ => sixteenths_cuts F ℓ f (halves fullShare c)

/-! ## What the handshakes carry -/

/-- Tile `(c, i)`'s shares of the ids and the tables. -/
abbrev tileReads (d : Dev nD) (c : Fin 2) (i : Fin 16) : sProp 𝕄 :=
  iprop((uLoc d ↦{tq c i} m (uLoc d)) ∗ (iLoc d ↦{tq c i} m (iLoc d)) ∗ (t0Loc d ↦{tq c i} m (t0Loc d)) ∗ (t1Loc d ↦{tq c i} m (t1Loc d))
    ∗ (t2Loc d ↦{tq c i} m (t2Loc d)) ∗ (t3Loc d ↦{tq c i} m (t3Loc d)))
/-- Tile `(c, i)`'s chunks of the four gathered arrays, at the contents given. -/
abbrev tileOuts (d : Dev nD) (c : Fin 2) (i : Fin 16) (f0 : Buf (Elt F) (o0Loc d)) (f1 : Buf (Elt F) (o1Loc d))
    (f2 : Buf (Elt F) (o2Loc d)) (f3 : Buf (Elt F) (o3Loc d)) : sProp 𝕄 :=
  iprop(oC0 d (coordsV c i) f0 ∗ oC1 d (coordsV c i) f1 ∗ oC2 d (coordsV c i) f2 ∗ oC3 d (coordsV c i) f3)

/-- The four lookups over the launch memory. -/
abbrev G0 (d : Dev nD) : Buf (Elt F) (o0Loc d) := gat (m (uLoc d)) (m (t0Loc d))
abbrev G1 (d : Dev nD) : Buf (Elt F) (o1Loc d) := gat (m (iLoc d)) (m (t1Loc d))
abbrev G2 (d : Dev nD) : Buf (Elt F) (o2Loc d) := gat (m (uLoc d)) (m (t2Loc d))
abbrev G3 (d : Dev nD) : Buf (Elt F) (o3Loc d) := gat (m (iLoc d)) (m (t3Loc d))

/-- What a tile is handed, and what it hands back. -/
abbrev tin (d : Dev nD) (c : Fin 2) (i : Fin 16) : sProp 𝕄 :=
  iprop(tileReads m d c i ∗ tileOuts d c i (m (o0Loc d)) (m (o1Loc d)) (m (o2Loc d)) (m (o3Loc d)))
abbrev tout (d : Dev nD) (c : Fin 2) (i : Fin 16) : sProp 𝕄 :=
  iprop(tileReads m d c i ∗ tileOuts d c i (G0 m d) (G1 m d) (G2 m d) (G3 m d))

/-- The call takes to each SparseCore what its sixteen tiles work on, and brings back what they hand back. -/
def P : (K (F := F)).Pay (nD := nD) (Val := Elt F) (Name := ℕ) (U := UU) where
  st := fun q d c => match q with | 0 => bigSep Finset.univ fun i : Fin 16 => tin m d c i
  dn := fun q d c => match q with | 0 => bigSep Finset.univ fun i : Fin 16 => tout m d c i
  go := fun q d c i => match q with | 0 => tin m d c i
  td := fun q d c i => match q with | 0 => tout m d c i
  x := fun _ _ => iprop(emp)

instance P_storable : (P (F := F) m).IsStorable where
  st q d c := match q with
    | 0 => (inferInstance : BI.Storable (upEmb : UEmb _ 𝕄) (bigSep Finset.univ fun i : Fin 16 => tin m d c i))
  dn q d c := match q with
    | 0 => (inferInstance : BI.Storable (upEmb : UEmb _ 𝕄) (bigSep Finset.univ fun i : Fin 16 => tout m d c i))
  go q d c i := match q with
    | 0 => (inferInstance : BI.Storable (upEmb : UEmb _ 𝕄) (tin m d c i))
  td q d c i := match q with
    | 0 => (inferInstance : BI.Storable (upEmb : UEmb _ 𝕄) (tout m d c i))

/-- What the proof asks of the launch memory: every id is a row of the tables. -/
def PreOK : Prop := ∀ (d : Dev nD) (x : S16384.Idx), (m (uLoc d) x).toNat < 100001 ∧ (m (iLoc d) x).toNat < 100001

theorem vecSplit : (K (F := F)).VecSplit' (P m) 0 := by
  intro d c
  show (bigSep Finset.univ fun i : Fin 16 => tin m d c i) ⊢ |={Set.univ}=> iprop(
      (bigSep Finset.univ fun i : Fin 16 => tin m d c i)
      ∗ ((bigSep Finset.univ fun i : Fin 16 => tout m d c i) -∗ (bigSep Finset.univ fun i : Fin 16 => tout m d c i)))
  iintro H; imodintro
  isplitl [H]; · iexact H
  iintro H; iexact H

/-! ## A tile's own buffers and semaphores -/

section Tile

variable (d : Dev nD) (L : grid0.Coords)

abbrev dcell (d : Dev nD) (c : Fin τ.nSC) (i : Fin τ.nSub) (k : Fin 12) : GSem nD τ sig :=
  (V d c i, .dma (csem k.val (Nat.lt_trans k.isLt (by decide))))

theorem dcell_mem (c : Fin τ.nSC) (i : Fin τ.nSub) (k : Fin 12) : dcell d c i k ∈ ownCells (V d c i) :=
  mem_ownCells.mpr ⟨rfl, (show ∀ k : Fin 12, (SemLoc.dma (csem k.val (Nat.lt_trans k.isLt (by decide))) : SemLoc sig).isScoped .scVector = true by decide) k⟩

/-- The tile's semaphores at zero: the twelve the body names, and the rest. -/
theorem ownSems0_V :
    (ownSems0 (VT d L) : sProp 𝕄)
      = iprop(cells0 d L ∗ bigSep ((ownCells (VT d L)) \ Finset.univ.image (dcell d (cV L) (jV L))) fun g => semVal g 0) := by
  unfold SparseCore.Cfg.ownSems0
  rw [SparseCore.bigSep_sdiff_split' (t := Finset.univ.image (dcell d (cV L) (jV L)))
      (Finset.image_subset_iff.mpr fun k _ => dcell_mem d (cV L) (jV L) k),
    SparseCore.bigSep_image_of_injOn (fun a _ b _ h => by
      have := congrArg (fun g : GSem nD τ sig => g.2) h
      simp only [SemLoc.dma.injEq, Fin.mk.injEq] at this; exact Fin.ext this)]
  rw [show (Finset.univ : Finset (Fin 12)) = {0, 1, 2, 3, 4, 5, 6, 7, 8, 9, 10, 11} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]
  rfl

/-- The buffers of tile `L` besides the four the body names. -/
abbrev otherRefs (L : grid0.Coords) : Finset (DevRef τ sig) :=
  ((((ownRefs (τ := τ) (.scVector (cV L) (jV L))).erase ((Proc.scVector (cV L) (jV L)).devRef cc0_scratch0)).erase
    ((Proc.scVector (cV L) (jV L)).devRef cc0_scratch1)).erase ((Proc.scVector (cV L) (jV L)).devRef cc0_scratch2)).erase
    ((Proc.scVector (cV L) (jV L)).devRef cc0_scratch3)

/-- The tile's buffers, each at some contents: the four the body names, and the rest. -/
theorem ownBufs_V :
    (ownBufs (VT d L) : sProp 𝕄)
      = iprop((∃ f, (VT d L).loc cc0_scratch0 ↦{fullShare} f) ∗ (∃ f, (VT d L).loc cc0_scratch1 ↦{fullShare} f)
          ∗ (∃ f, (VT d L).loc cc0_scratch2 ↦{fullShare} f) ∗ (∃ f, (VT d L).loc cc0_scratch3 ↦{fullShare} f)
          ∗ bigSep (otherRefs L) fun b => iprop(∃ f, ((d, b) : Loc nD τ sig) ↦{fullShare} f)) := by
  unfold SparseCore.Cfg.ownBufs otherRefs
  have hn : ∀ b b' : Ref sig .scVector, b ≠ b' → (Proc.scVector (cV L) (jV L)).devRef b ≠ (Proc.scVector (cV L) (jV L)).devRef b' :=
    fun b b' h e => h (Proc.devRef_injective _ e)
  rw [SparseCore.bigSep_erase' (SparseCore.Cfg.mem_ownRefs_of_owner (p := Proc.scVector (cV L) (jV L)) (b := (Proc.scVector (cV L) (jV L)).devRef cc0_scratch0) rfl),
    SparseCore.bigSep_erase' (Finset.mem_erase.mpr ⟨hn cc0_scratch1 cc0_scratch0 (by decide), SparseCore.Cfg.mem_ownRefs_of_owner (p := Proc.scVector (cV L) (jV L)) (b := (Proc.scVector (cV L) (jV L)).devRef cc0_scratch1) rfl⟩),
    SparseCore.bigSep_erase' (Finset.mem_erase.mpr ⟨hn cc0_scratch2 cc0_scratch1 (by decide),
      Finset.mem_erase.mpr ⟨hn cc0_scratch2 cc0_scratch0 (by decide), SparseCore.Cfg.mem_ownRefs_of_owner (p := Proc.scVector (cV L) (jV L)) (b := (Proc.scVector (cV L) (jV L)).devRef cc0_scratch2) rfl⟩⟩),
    SparseCore.bigSep_erase' (Finset.mem_erase.mpr ⟨hn cc0_scratch3 cc0_scratch2 (by decide),
      Finset.mem_erase.mpr ⟨hn cc0_scratch3 cc0_scratch1 (by decide),
        Finset.mem_erase.mpr ⟨hn cc0_scratch3 cc0_scratch0 (by decide), SparseCore.Cfg.mem_ownRefs_of_owner (p := Proc.scVector (cV L) (jV L)) (b := (Proc.scVector (cV L) (jV L)).devRef cc0_scratch3) rfl⟩⟩⟩)]

/-! ## A list buffer and its four rows -/

/-- The elements of row `k` of a list buffer. -/
def rset (k : Fin 4) : Finset S4x128.Idx := Finset.univ.filter fun x => (x 0).val = k.val

theorem mem_rset (k : Fin 4) (x : S4x128.Idx) : x ∈ rset k ↔ (x 0).val = k.val := by
  unfold rset; rw [Finset.mem_filter]; exact ⟨fun h => h.2, fun h => ⟨Finset.mem_univ _, h⟩⟩

theorem rowRect_set (k : Fin 4) (o : Fin 2 → ℕ) (h : ∀ a, o a + S1x128.size a ≤ S4x128.size a) (e : o = ![k.val, 0]) :
    (Rect.unit (s := S4x128) o S1x128.size h).set = rset k := by
  subst e
  ext x
  have h1 : (x 1).val < 128 := (x 1).isLt
  rw [Rect.mem_set_unit, mem_rset]
  constructor
  · intro hx
    have h0 : k.val ≤ (x 0).val ∧ (x 0).val < k.val + 1 := hx 0
    omega
  · intro hx a
    match a with
    | 0 => show k.val ≤ (x 0).val ∧ (x 0).val < k.val + 1; omega
    | 1 => show 0 ≤ (x 1).val ∧ (x 1).val < 0 + 128; omega

theorem rset_disjoint : ∀ k ∈ (Finset.univ : Finset (Fin 4)), ∀ k' ∈ (Finset.univ : Finset (Fin 4)), k ≠ k' → Disjoint (rset k) (rset k') :=
  fun k _ k' _ h => Finset.disjoint_left.mpr fun x hx hx' => h (Fin.ext (((mem_rset k x).mp hx).symm.trans ((mem_rset k' x).mp hx')))

theorem rset_cover : (Finset.univ : Finset (Fin 4)).biUnion rset = Finset.univ :=
  Finset.eq_univ_of_forall fun x => Finset.mem_biUnion.mpr ⟨x 0, Finset.mem_univ _, (mem_rset _ x).mpr rfl⟩

theorem bigSep_four (Φ : Fin 4 → sProp 𝕄) : bigSep Finset.univ Φ = iprop(Φ 0 ∗ Φ 1 ∗ Φ 2 ∗ Φ 3) := by
  rw [show (Finset.univ : Finset (Fin 4)) = {0, 1, 2, 3} by decide, SparseCore.bigSep_insert' (by decide),
    SparseCore.bigSep_insert' (by decide), SparseCore.bigSep_insert' (by decide), bigSep_singleton]

theorem set_lu0 : (row0 luV).view.set = rset 0 := by
  show (((View.whole (cc0_scratch0 : Ref sig .scVector)).slice (Rect.unit (s := S4x128) ![0, 0] S1x128.size inb_S4x128_S1x128_0_0)).reshape S128 squeezes_S1x128_S128.numel_eq).set = _
  rw [View.set_reshape, View.set_slice]; exact Finset.map_refl.trans (rowRect_set 0 _ _ rfl)
theorem set_lu1 : (row1 luV).view.set = rset 1 := by
  show (((View.whole (cc0_scratch0 : Ref sig .scVector)).slice (Rect.unit (s := S4x128) ![1, 0] S1x128.size inb_S4x128_S1x128_1_0)).reshape S128 squeezes_S1x128_S128.numel_eq).set = _
  rw [View.set_reshape, View.set_slice]; exact Finset.map_refl.trans (rowRect_set 1 _ _ rfl)
theorem set_lu2 : (row2 luV).view.set = rset 2 := by
  show (((View.whole (cc0_scratch0 : Ref sig .scVector)).slice (Rect.unit (s := S4x128) ![2, 0] S1x128.size inb_S4x128_S1x128_2_0)).reshape S128 squeezes_S1x128_S128.numel_eq).set = _
  rw [View.set_reshape, View.set_slice]; exact Finset.map_refl.trans (rowRect_set 2 _ _ rfl)
theorem set_lu3 : (row3 luV).view.set = rset 3 := by
  show (((View.whole (cc0_scratch0 : Ref sig .scVector)).slice (Rect.unit (s := S4x128) ![3, 0] S1x128.size inb_S4x128_S1x128_3_0)).reshape S128 squeezes_S1x128_S128.numel_eq).set = _
  rw [View.set_reshape, View.set_slice]; exact Finset.map_refl.trans (rowRect_set 3 _ _ rfl)

theorem lu_rows (f : Buf (Elt F) ((VT d L).loc cc0_scratch0)) :
    ((VT d L).loc cc0_scratch0 ↦{fullShare} f : sProp 𝕄) = iprop(((VT d L).loc cc0_scratch0 ↦[rset 0]{fullShare} f) ∗ ((VT d L).loc cc0_scratch0 ↦[rset 1]{fullShare} f)
      ∗ ((VT d L).loc cc0_scratch0 ↦[rset 2]{fullShare} f) ∗ ((VT d L).loc cc0_scratch0 ↦[rset 3]{fullShare} f)) := by
  have h := pointsTo_biUnion (Ix := HIx 1) (Name := ℕ) (U := UU) (Lvl := ℕ) Finset.univ (ℓ := (VT d L).loc cc0_scratch0) (q := fullShare) (f := f) rset rset_disjoint
  rw [rset_cover, bigSep_four] at h
  exact h
/-- The list buffer at some contents is its four rows, each at some contents. -/
theorem lu_split : (iprop(∃ f, (VT d L).loc cc0_scratch0 ↦{fullShare} f) : sProp 𝕄) ⊢ rowsAny d L luV := by
  unfold rowsAny
  rw [set_lu0, set_lu1, set_lu2, set_lu3]
  iintro ⟨%f, H⟩
  ihave H := (Entails.of_eq (lu_rows (F := F) d L f)) $$ H
  icases H with ⟨H0, H1, H2, H3⟩
  isplitl [H0]; · iexists f; iexact H0
  isplitl [H1]; · iexists f; iexact H1
  isplitl [H2]; · iexists f; iexact H2
  iexists f; iexact H3
theorem lu_join : (rowsAny d L luV : sProp 𝕄) ⊢ iprop(∃ f, (VT d L).loc cc0_scratch0 ↦{fullShare} f) := by
  unfold rowsAny
  rw [set_lu0, set_lu1, set_lu2, set_lu3]
  have : Nonempty (Buf (Elt F) ((VT d L).loc cc0_scratch0)) := ⟨fun _ => (0#32 : BitVec 32)⟩
  iintro H
  ihave H := (Entails.of_eq (Eq.symm (bigSep_four (F := F) (fun k => iprop(∃ f, (VT d L).loc cc0_scratch0 ↦[rset k]{fullShare} f))))) $$ H
  ihave H := (bigSep_exists_pi Finset.univ (fun k (f : Buf (Elt F) ((VT d L).loc cc0_scratch0)) => ((VT d L).loc cc0_scratch0 ↦[rset k]{fullShare} f : sProp 𝕄))) $$ H
  icases H with ⟨%fs, H⟩
  ihave H' := (pointsTo_biUnion_join (ℓ := (VT d L).loc cc0_scratch0) (q := fullShare) (Val := Elt F) Finset.univ rset fs (fs 0) rset_disjoint) $$ H
  icases H' with ⟨%g, -, Hg⟩
  rw [rset_cover]
  iexists g; iexact Hg

theorem set_li0 : (row0 liV).view.set = rset 0 := by
  show (((View.whole (cc0_scratch1 : Ref sig .scVector)).slice (Rect.unit (s := S4x128) ![0, 0] S1x128.size inb_S4x128_S1x128_0_0)).reshape S128 squeezes_S1x128_S128.numel_eq).set = _
  rw [View.set_reshape, View.set_slice]; exact Finset.map_refl.trans (rowRect_set 0 _ _ rfl)
theorem set_li1 : (row1 liV).view.set = rset 1 := by
  show (((View.whole (cc0_scratch1 : Ref sig .scVector)).slice (Rect.unit (s := S4x128) ![1, 0] S1x128.size inb_S4x128_S1x128_1_0)).reshape S128 squeezes_S1x128_S128.numel_eq).set = _
  rw [View.set_reshape, View.set_slice]; exact Finset.map_refl.trans (rowRect_set 1 _ _ rfl)
theorem set_li2 : (row2 liV).view.set = rset 2 := by
  show (((View.whole (cc0_scratch1 : Ref sig .scVector)).slice (Rect.unit (s := S4x128) ![2, 0] S1x128.size inb_S4x128_S1x128_2_0)).reshape S128 squeezes_S1x128_S128.numel_eq).set = _
  rw [View.set_reshape, View.set_slice]; exact Finset.map_refl.trans (rowRect_set 2 _ _ rfl)
theorem set_li3 : (row3 liV).view.set = rset 3 := by
  show (((View.whole (cc0_scratch1 : Ref sig .scVector)).slice (Rect.unit (s := S4x128) ![3, 0] S1x128.size inb_S4x128_S1x128_3_0)).reshape S128 squeezes_S1x128_S128.numel_eq).set = _
  rw [View.set_reshape, View.set_slice]; exact Finset.map_refl.trans (rowRect_set 3 _ _ rfl)

theorem li_rows (f : Buf (Elt F) ((VT d L).loc cc0_scratch1)) :
    ((VT d L).loc cc0_scratch1 ↦{fullShare} f : sProp 𝕄) = iprop(((VT d L).loc cc0_scratch1 ↦[rset 0]{fullShare} f) ∗ ((VT d L).loc cc0_scratch1 ↦[rset 1]{fullShare} f)
      ∗ ((VT d L).loc cc0_scratch1 ↦[rset 2]{fullShare} f) ∗ ((VT d L).loc cc0_scratch1 ↦[rset 3]{fullShare} f)) := by
  have h := pointsTo_biUnion (Ix := HIx 1) (Name := ℕ) (U := UU) (Lvl := ℕ) Finset.univ (ℓ := (VT d L).loc cc0_scratch1) (q := fullShare) (f := f) rset rset_disjoint
  rw [rset_cover, bigSep_four] at h
  exact h
/-- The list buffer at some contents is its four rows, each at some contents. -/
theorem li_split : (iprop(∃ f, (VT d L).loc cc0_scratch1 ↦{fullShare} f) : sProp 𝕄) ⊢ rowsAny d L liV := by
  unfold rowsAny
  rw [set_li0, set_li1, set_li2, set_li3]
  iintro ⟨%f, H⟩
  ihave H := (Entails.of_eq (li_rows (F := F) d L f)) $$ H
  icases H with ⟨H0, H1, H2, H3⟩
  isplitl [H0]; · iexists f; iexact H0
  isplitl [H1]; · iexists f; iexact H1
  isplitl [H2]; · iexists f; iexact H2
  iexists f; iexact H3
theorem li_join : (rowsAny d L liV : sProp 𝕄) ⊢ iprop(∃ f, (VT d L).loc cc0_scratch1 ↦{fullShare} f) := by
  unfold rowsAny
  rw [set_li0, set_li1, set_li2, set_li3]
  have : Nonempty (Buf (Elt F) ((VT d L).loc cc0_scratch1)) := ⟨fun _ => (0#32 : BitVec 32)⟩
  iintro H
  ihave H := (Entails.of_eq (Eq.symm (bigSep_four (F := F) (fun k => iprop(∃ f, (VT d L).loc cc0_scratch1 ↦[rset k]{fullShare} f))))) $$ H
  ihave H := (bigSep_exists_pi Finset.univ (fun k (f : Buf (Elt F) ((VT d L).loc cc0_scratch1)) => ((VT d L).loc cc0_scratch1 ↦[rset k]{fullShare} f : sProp 𝕄))) $$ H
  icases H with ⟨%fs, H⟩
  ihave H' := (pointsTo_biUnion_join (ℓ := (VT d L).loc cc0_scratch1) (q := fullShare) (Val := Elt F) Finset.univ rset fs (fs 0) rset_disjoint) $$ H
  icases H' with ⟨%g, -, Hg⟩
  rw [rset_cover]
  iexists g; iexact Hg

/-! ## The tile's pieces in the body's spelling -/

theorem pts_sa (f : Buf (Elt F) ((VT d L).loc cc0_scratch2)) :
    ((saV).view.loc (VT d L) ↦[(saV).view.set]{fullShare} f : sProp 𝕄) = (VT d L).loc cc0_scratch2 ↦{fullShare} f := by
  rw [View.set_whole]
theorem pts_sb (f : Buf (Elt F) ((VT d L).loc cc0_scratch3)) :
    ((sbV).view.loc (VT d L) ↦[(sbV).view.set]{fullShare} f : sProp 𝕄) = (VT d L).loc cc0_scratch3 ↦{fullShare} f := by
  rw [View.set_whole]

theorem set_o0_0 : (out0 L o0V).view.set = chunk L 0 := by
  show ((View.whole (main_v0_0_scv : Ref sig .scVector)).slice (chunkRect L 0)).set = _
  rw [View.set_slice]; exact Finset.map_refl
theorem set_o0_1 : (out1 L o0V).view.set = chunk L 1 := by
  show ((View.whole (main_v0_0_scv : Ref sig .scVector)).slice (chunkRect L 1)).set = _
  rw [View.set_slice]; exact Finset.map_refl
theorem set_o0_2 : (out2 L o0V).view.set = chunk L 2 := by
  show ((View.whole (main_v0_0_scv : Ref sig .scVector)).slice (chunkRect L 2)).set = _
  rw [View.set_slice]; exact Finset.map_refl
theorem set_o0_3 : (out3 L o0V).view.set = chunk L 3 := by
  show ((View.whole (main_v0_0_scv : Ref sig .scVector)).slice (chunkRect L 3)).set = _
  rw [View.set_slice]; exact Finset.map_refl
theorem outs0_eq (f : Buf (Elt F) (o0Loc d)) : (outs4 d L o0V f : sProp 𝕄) = oC0 d L f := by
  unfold outs4 oC0
  rw [set_o0_0, set_o0_1, set_o0_2, set_o0_3, bigSep_four]
theorem set_o1_0 : (out0 L o1V).view.set = chunk L 0 := by
  show ((View.whole (main_v0_1_scv : Ref sig .scVector)).slice (chunkRect L 0)).set = _
  rw [View.set_slice]; exact Finset.map_refl
theorem set_o1_1 : (out1 L o1V).view.set = chunk L 1 := by
  show ((View.whole (main_v0_1_scv : Ref sig .scVector)).slice (chunkRect L 1)).set = _
  rw [View.set_slice]; exact Finset.map_refl
theorem set_o1_2 : (out2 L o1V).view.set = chunk L 2 := by
  show ((View.whole (main_v0_1_scv : Ref sig .scVector)).slice (chunkRect L 2)).set = _
  rw [View.set_slice]; exact Finset.map_refl
theorem set_o1_3 : (out3 L o1V).view.set = chunk L 3 := by
  show ((View.whole (main_v0_1_scv : Ref sig .scVector)).slice (chunkRect L 3)).set = _
  rw [View.set_slice]; exact Finset.map_refl
theorem outs1_eq (f : Buf (Elt F) (o1Loc d)) : (outs4 d L o1V f : sProp 𝕄) = oC1 d L f := by
  unfold outs4 oC1
  rw [set_o1_0, set_o1_1, set_o1_2, set_o1_3, bigSep_four]
theorem set_o2_0 : (out0 L o2V).view.set = chunk L 0 := by
  show ((View.whole (main_v0_2_scv : Ref sig .scVector)).slice (chunkRect L 0)).set = _
  rw [View.set_slice]; exact Finset.map_refl
theorem set_o2_1 : (out1 L o2V).view.set = chunk L 1 := by
  show ((View.whole (main_v0_2_scv : Ref sig .scVector)).slice (chunkRect L 1)).set = _
  rw [View.set_slice]; exact Finset.map_refl
theorem set_o2_2 : (out2 L o2V).view.set = chunk L 2 := by
  show ((View.whole (main_v0_2_scv : Ref sig .scVector)).slice (chunkRect L 2)).set = _
  rw [View.set_slice]; exact Finset.map_refl
theorem set_o2_3 : (out3 L o2V).view.set = chunk L 3 := by
  show ((View.whole (main_v0_2_scv : Ref sig .scVector)).slice (chunkRect L 3)).set = _
  rw [View.set_slice]; exact Finset.map_refl
theorem outs2_eq (f : Buf (Elt F) (o2Loc d)) : (outs4 d L o2V f : sProp 𝕄) = oC2 d L f := by
  unfold outs4 oC2
  rw [set_o2_0, set_o2_1, set_o2_2, set_o2_3, bigSep_four]
theorem set_o3_0 : (out0 L o3V).view.set = chunk L 0 := by
  show ((View.whole (main_v0_3_scv : Ref sig .scVector)).slice (chunkRect L 0)).set = _
  rw [View.set_slice]; exact Finset.map_refl
theorem set_o3_1 : (out1 L o3V).view.set = chunk L 1 := by
  show ((View.whole (main_v0_3_scv : Ref sig .scVector)).slice (chunkRect L 1)).set = _
  rw [View.set_slice]; exact Finset.map_refl
theorem set_o3_2 : (out2 L o3V).view.set = chunk L 2 := by
  show ((View.whole (main_v0_3_scv : Ref sig .scVector)).slice (chunkRect L 2)).set = _
  rw [View.set_slice]; exact Finset.map_refl
theorem set_o3_3 : (out3 L o3V).view.set = chunk L 3 := by
  show ((View.whole (main_v0_3_scv : Ref sig .scVector)).slice (chunkRect L 3)).set = _
  rw [View.set_slice]; exact Finset.map_refl
theorem outs3_eq (f : Buf (Elt F) (o3Loc d)) : (outs4 d L o3V f : sProp 𝕄) = oC3 d L f := by
  unfold outs4 oC3
  rw [set_o3_0, set_o3_1, set_o3_2, set_o3_3, bigSep_four]

/-- A share as two read tokens and what stays. -/
theorem toks (ℓ : Loc nD τ sig) (q : PosShare TreeShare) (f : Buf (Elt F) ℓ) :
    (ℓ ↦{q} f : sProp 𝕄) ⊣⊢ iprop((ℓ ↦{Transfers.shareDrop q 2} f) ∗ (ℓ ↦{Transfers.shareTokN q 0} f) ∗ (ℓ ↦{Transfers.shareTokN q 1} f)) := by
  have h : (ℓ ↦{q} f : sProp 𝕄) ⊣⊢ iprop((ℓ ↦{Transfers.shareDrop q 2} f) ∗ bigSep (Finset.range 2) fun i => ℓ ↦{Transfers.shareTokN q i} f) :=
    Transfers.pointsTo_toks_range (ℓ := ℓ) (S := Finset.univ) (f := f) q 2
  rw [show Finset.range 2 = {0, 1} by decide, SparseCore.bigSep_insert' (by decide), bigSep_singleton] at h
  exact h

/-! ## The obligation -/

variable [FloatOps F]

/-- The body at tile `(c, i)`, from what the launch hands the tile to what the tile hands back. -/
theorem tile_body (c : Fin 2) (i : Fin 16) (hF : (K (F := F)).Facts) (hpre : PreOK m) (O : CellTallies nD τ sig (HIx 1)) (W : Waits sig (HIx 1))
    (hO : ∀ g, O g none = 0) :
    iprop(levAts (K (F := F)).L (K (F := F)).lev ∗ emp ∗ tin m d c i
        ∗ scopedBufs (VT d (coordsV c i)) ∗ scopedSems0 (VT d (coordsV c i)) ∗ owes (VT d (coordsV c i)) O W)
      ⊢ wp frame (wpE (defs₀ (F := F)) 𝒱₀ (VT d (coordsV c i)) none) Set.univ
          (cc0__sc_gather_body (coordsV c i) uidsV (Memref.isWhole_whole _) iidsV (Memref.isWhole_whole _)
            t0V (Memref.isWhole_whole _) t1V (Memref.isWhole_whole _) t2V (Memref.isWhole_whole _) t3V (Memref.isWhole_whole _)
            o0V (Memref.isWhole_whole _) o1V (Memref.isWhole_whole _) o2V (Memref.isWhole_whole _) o3V (Memref.isWhole_whole _)
            luV (Memref.isWhole_whole _) liV (Memref.isWhole_whole _) saV (Memref.isWhole_whole _) sbV (Memref.isWhole_whole _)
            cc0_scratch4 cc0_scratch5 cc0_scratch6 cc0_scratch7
            cc0_scoped0 cc0_scoped1 cc0_scoped2 cc0_scoped3 cc0_scoped4 cc0_scoped5 cc0_scoped6 cc0_scoped7)
          fun _ => iprop(tout m d c i ∗ scopedBufs (VT d (coordsV c i)) ∗ scopedSems0 (VT d (coordsV c i))
            ∗ ∃ W', ⌜∀ p ∈ W', p ∈ W ∨ p.2 = none ∨ p.2 = some (0 : Fin 1)⌝ ∗ owes (VT d (coordsV c i)) O W') := by
  rw [(K (F := F)).scopedBufs_V hF d (cV (coordsV c i)) (jV (coordsV c i)),
    SparseCore.Cfg.scopedSems0_V (Val := Elt F) d (cV (coordsV c i)) (jV (coordsV c i)), ownSems0_V, ownBufs_V]
  iintro ⟨#Hlv, -, ⟨⟨Hu, Hi, Ht0, Ht1, Ht2, Ht3⟩, ⟨Ho0, Ho1, Ho2, Ho3⟩⟩, ⟨Hlu, Hli, ⟨%ha, Hsa⟩, ⟨%hb, Hsb⟩, Hbufs⟩, ⟨HC, Hsems⟩, HO⟩
  ihave Hmw := (show levAts (K (F := F)).L (K (F := F)).lev ⊢ Transfers.MayWaits (VT d (coordsV c i)) (default : HIx 1) O from
    (K (F := F)).mayWaits_none (thr := VT d (coordsV c i)) hO) $$ Hlv
  ihave Ho0 := (Entails.of_eq (outs0_eq (F := F) d (coordsV c i) _).symm) $$ Ho0
  ihave Ho1 := (Entails.of_eq (outs1_eq (F := F) d (coordsV c i) _).symm) $$ Ho1
  ihave Ho2 := (Entails.of_eq (outs2_eq (F := F) d (coordsV c i) _).symm) $$ Ho2
  ihave Ho3 := (Entails.of_eq (outs3_eq (F := F) d (coordsV c i) _).symm) $$ Ho3
  ihave Hlu := (lu_split (F := F) d (coordsV c i)) $$ Hlu
  ihave Hli := (li_split (F := F) d (coordsV c i)) $$ Hli
  ihave Hsa := (Entails.of_eq (pts_sa (F := F) d (coordsV c i) _).symm) $$ Hsa
  ihave Hsb := (Entails.of_eq (pts_sb (F := F) d (coordsV c i) _).symm) $$ Hsb
  ihave Ht0 := (toks (t0Loc d) (tq c i) (m (t0Loc d))).1 $$ Ht0
  icases Ht0 with ⟨Hr0, Ha0, Hb0⟩
  ihave Ht1 := (toks (t1Loc d) (tq c i) (m (t1Loc d))).1 $$ Ht1
  icases Ht1 with ⟨Hr1, Ha1, Hb1⟩
  ihave Ht2 := (toks (t2Loc d) (tq c i) (m (t2Loc d))).1 $$ Ht2
  icases Ht2 with ⟨Hr2, Ha2, Hb2⟩
  ihave Ht3 := (toks (t3Loc d) (tq c i) (m (t3Loc d))).1 $$ Ht3
  icases Ht3 with ⟨Hr3, Ha3, Hb3⟩
  iapply (wp_wand_r Idealize.ShloMosaic.frame (wpE (defs₀ (F := F)) 𝒱₀ (VT d (coordsV c i)) none) Set.univ)
  isplitl [Hu Hi Ha0 Ha1 Ha2 Ha3 Hb0 Hb1 Hb2 Hb3 Ho0 Ho1 Ho2 Ho3 Hlu Hli Hsa Hsb HC HO]
  · iapply (tile_run (F := F) d (coordsV c i) (m (uLoc d)) (m (iLoc d)) (fun x => (hpre d x).1) (fun x => (hpre d x).2) O W (tq c i)
      (m (t0Loc d)) (m (t1Loc d)) (m (t2Loc d)) (m (t3Loc d)) (m (o0Loc d)) (m (o1Loc d)) (m (o2Loc d)) (m (o3Loc d)))
    isplitr; · iexact Hmw
    isplitr [Ho0 Ho1 Ho2 Ho3 HO]
    · isplitl [Hu]; · iexact Hu
      isplitl [Hi]; · iexact Hi
      isplitl [Ha0]; · iexact Ha0
      isplitl [Hb0]; · iexact Hb0
      isplitl [Ha1]; · iexact Ha1
      isplitl [Hb1]; · iexact Hb1
      isplitl [Ha2]; · iexact Ha2
      isplitl [Hb2]; · iexact Hb2
      isplitl [Ha3]; · iexact Ha3
      isplitl [Hb3]; · iexact Hb3
      isplitl [Hlu]; · iexact Hlu
      isplitl [Hli]; · iexact Hli
      isplitl [Hsa]; · iexists _; iexact Hsa
      isplitl [Hsb]; · iexists _; iexact Hsb
      iexact HC
    isplitl [Ho0]; · iexact Ho0
    isplitl [Ho1]; · iexact Ho1
    isplitl [Ho2]; · iexact Ho2
    isplitl [Ho3]; · iexact Ho3
    iexact HO
  iintro %_ ⟨⟨Hu, Hi, Ha0, Hb0, Ha1, Hb1, Ha2, Hb2, Ha3, Hb3, Hlu, Hli, ⟨%ha', Hsa⟩, ⟨%hb', Hsb⟩, HC⟩, Ho0, Ho1, Ho2, Ho3, ⟨%W', HO⟩⟩
  ihave Ht0 := (toks (t0Loc d) (tq c i) (m (t0Loc d))).2 $$ [Hr0 Ha0 Hb0]
  · isplitl [Hr0]; · iexact Hr0
    isplitl [Ha0]; · iexact Ha0
    iexact Hb0
  ihave Ht1 := (toks (t1Loc d) (tq c i) (m (t1Loc d))).2 $$ [Hr1 Ha1 Hb1]
  · isplitl [Hr1]; · iexact Hr1
    isplitl [Ha1]; · iexact Ha1
    iexact Hb1
  ihave Ht2 := (toks (t2Loc d) (tq c i) (m (t2Loc d))).2 $$ [Hr2 Ha2 Hb2]
  · isplitl [Hr2]; · iexact Hr2
    isplitl [Ha2]; · iexact Ha2
    iexact Hb2
  ihave Ht3 := (toks (t3Loc d) (tq c i) (m (t3Loc d))).2 $$ [Hr3 Ha3 Hb3]
  · isplitl [Hr3]; · iexact Hr3
    isplitl [Ha3]; · iexact Ha3
    iexact Hb3
  isplitl [Hu Hi Ht0 Ht1 Ht2 Ht3 Ho0 Ho1 Ho2 Ho3]
  · isplitr [Ho0 Ho1 Ho2 Ho3]
    · isplitl [Hu]; · iexact Hu
      isplitl [Hi]; · iexact Hi
      isplitl [Ht0]; · iexact Ht0
      isplitl [Ht1]; · iexact Ht1
      isplitl [Ht2]; · iexact Ht2
      iexact Ht3
    isplitl [Ho0]; · iapply (Entails.of_eq (outs0_eq (F := F) d (coordsV c i) _)); iexact Ho0
    isplitl [Ho1]; · iapply (Entails.of_eq (outs1_eq (F := F) d (coordsV c i) _)); iexact Ho1
    isplitl [Ho2]; · iapply (Entails.of_eq (outs2_eq (F := F) d (coordsV c i) _)); iexact Ho2
    iapply (Entails.of_eq (outs3_eq (F := F) d (coordsV c i) _)); iexact Ho3
  isplitl [Hlu Hli Hsa Hsb Hbufs]
  · isplitl [Hlu]; · iapply (lu_join (F := F) d (coordsV c i)); iexact Hlu
    isplitl [Hli]; · iapply (li_join (F := F) d (coordsV c i)); iexact Hli
    isplitl [Hsa]; · iexists _; iapply (Entails.of_eq (pts_sa (F := F) d (coordsV c i) _)); iexact Hsa
    isplitl [Hsb]; · iexists _; iapply (Entails.of_eq (pts_sb (F := F) d (coordsV c i) _)); iexact Hsb
    iexact Hbufs
  isplitl [HC Hsems]
  · isplitl [HC]; · iexact HC
    iexact Hsems
  iexists W'; isplitr
  · ipureintro; intro p _
    rcases p.2 with _ | q
    · exact .inr (.inl rfl)
    · exact .inr (.inr (congrArg some (Subsingleton.elim q 0)))
  · iexact HO

theorem defs₀_vector (c : Fin τ.nSC) (s : Fin τ.nSub) :
    defs₀ (F := F) (.scVector c s) 0 ()
      = SparseCore.onTile hcore0 hsub0 (fun c s => cc0__sc_gather_body (coordsV c s) uidsV (Memref.isWhole_whole _) iidsV (Memref.isWhole_whole _)
            t0V (Memref.isWhole_whole _) t1V (Memref.isWhole_whole _) t2V (Memref.isWhole_whole _) t3V (Memref.isWhole_whole _)
            o0V (Memref.isWhole_whole _) o1V (Memref.isWhole_whole _) o2V (Memref.isWhole_whole _) o3V (Memref.isWhole_whole _)
            luV (Memref.isWhole_whole _) liV (Memref.isWhole_whole _) saV (Memref.isWhole_whole _) sbV (Memref.isWhole_whole _)
            cc0_scratch4 cc0_scratch5 cc0_scratch6 cc0_scratch7
            cc0_scoped0 cc0_scoped1 cc0_scoped2 cc0_scoped3 cc0_scoped4 cc0_scoped5 cc0_scoped6 cc0_scoped7) ⟨⟩ c s := rfl

/-- Every tile's run is what the launch asks of it. -/
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d ⟨_, hci.1⟩ ⟨_, hci.2⟩ hF hpre O W hO

/-- The launch's side conditions on the program's semaphores and buffers. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

end Tile

end Cert.Proof.Ideal
-- ==== Proof.Ideal.Region.lean ====
/-
  The TensorCore call of the kernel: the dense layers over one block of 2048 gathered rows, run once at symbolic staging
  buffers; the pipeline's proof data over its eight grid points; and the call as one segment of the program.
-/
module

public import proofs.«01_k».proof.Proof.Ideal.Body
public import proofs.«01_k».proof.Proof.Gen.KernelIdeal.Launch
public import proofs.«01_k».proof.Proof.Gen.KernelIdeal.Points
public import Idealize.ShloMosaic.Lib.Pipeline.FrameBody
public import Idealize.ShloMosaic.Lib.Pipeline.Regions
public import Idealize.ShloMosaic.Lib.Pipeline.Frame
public import Idealize.ShloMosaic.Lib.ValueIdx
public import Idealize.ShloMosaic.Lib.Pipeline.ValueKit.Geometry

@[expose] public section

noncomputable section

namespace Cert.Proof.Ideal

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-! ## One block -/

/-- The scores of one block of rows: the payload the body stores, as a function of the fourteen blocks it reads. -/
def tcBlock (X0 : Vec F S2048x128 .f32) (X1 : Vec F S2048x128 .f32) (X2 : Vec F S2048x128 .f32) (X3 : Vec F S2048x128 .f32) (X4 : Vec F S128x64 .f32) (X5 : Vec F S128x64 .f32) (X6 : Vec F S1x64 .f32) (X7 : Vec F S64x32 .f32) (X8 : Vec F S1x32 .f32) (X9 : Vec F S32x16 .f32) (X10 : Vec F S1x16 .f32) (X11 : Vec F S1x128 .f32) (X12 : Vec F S1x16 .f32) (X13 : Vec F S1x1 .f32) : FVec F S2048 .f32 :=
  k1_pay1 (k1_pay2 X2 X4 X3 X5 X6 X7 X8 X9 X10) X0 X1 X11 X12 X13

/-- A memref's buffer on the TensorCore of device `c`, held whole at `f`. -/
abbrev pt (c : Dev nD) {sp : Space} {S : Shape} {e : EltTy} (M : Memref sig .tc sp S e)
    (f : Buf (Elt F) (M.view.loc (c : Thread nD τ))) : sProp 𝕄 :=
  M.view.loc (c : Thread nD τ) ↦{fullShare} f

/-- A load through a rectangle of the whole shape reads the contents. -/
theorem readAt_all {κ : Kind} {sp : Space} {s : Shape} {e : EltTy} (v : View sig κ sp s e) (f : v.ty.Contents (Elt F))
    {off : Fin s.rank → ℕ} (h : ∀ a, off a = 0) (inb : ∀ a, off a + s.size a ≤ s.size a) :
    v.readAt (Elt F) (Rect.unit off s.size inb).toLoadRect f = v.read (Elt F) f := by
  funext y
  have hy : (Rect.unit off s.size inb).emb y = y := by
    funext a
    refine Fin.ext ?_
    rw [ValueKit.rect_emb_unit_val, h a, Nat.zero_add]
  exact congrArg (v.read (Elt F) f) hy

/-- A store through a rectangle of the whole shape leaves its payload. -/
theorem read_store_all {κ : Kind} {sp : Space} {s : Shape} {e : EltTy} (v : View sig κ sp s e) (f : v.ty.Contents (Elt F))
    {off : Fin s.rank → ℕ} (h : ∀ a, off a = 0) (inb : ∀ a, off a + s.size a ≤ s.size a) (w : s.Idx → Elt F e) :
    v.read (Elt F) (v.writes (Elt F) f [⟨Rect.unit off s.size inb, w⟩]) = w := by
  funext y
  have hr := View.read_writes_cons_emb (v := v) (f := f) (Rect.unit off s.size inb) w [] y
  have hy : (Rect.unit off s.size inb).emb y = y := by
    funext a
    refine Fin.ext ?_
    rw [ValueKit.rect_emb_unit_val, h a, Nat.zero_add]
  rwa [hy] at hr

theorem hz2 : ∀ a : Fin 2, (![0, 0] : Fin 2 → ℕ) a = 0 := by decide

/-- The body, run once at any point and any staging buffers: the inputs stay as they are, the result's buffer ends up
    holding the block of scores. -/
theorem tc_run (c : Dev nD) (i : grid1.Coords)
    (M0 : Memref sig .tc .vmem S2048x128 .f32) (h0 : M0.IsWhole)
    (M1 : Memref sig .tc .vmem S2048x128 .f32) (h1 : M1.IsWhole)
    (M2 : Memref sig .tc .vmem S2048x128 .f32) (h2 : M2.IsWhole)
    (M3 : Memref sig .tc .vmem S2048x128 .f32) (h3 : M3.IsWhole)
    (M4 : Memref sig .tc .vmem S128x64 .f32) (h4 : M4.IsWhole)
    (M5 : Memref sig .tc .vmem S128x64 .f32) (h5 : M5.IsWhole)
    (M6 : Memref sig .tc .vmem S1x64 .f32) (h6 : M6.IsWhole)
    (M7 : Memref sig .tc .vmem S64x32 .f32) (h7 : M7.IsWhole)
    (M8 : Memref sig .tc .vmem S1x32 .f32) (h8 : M8.IsWhole)
    (M9 : Memref sig .tc .vmem S32x16 .f32) (h9 : M9.IsWhole)
    (M10 : Memref sig .tc .vmem S1x16 .f32) (h10 : M10.IsWhole)
    (M11 : Memref sig .tc .vmem S1x128 .f32) (h11 : M11.IsWhole)
    (M12 : Memref sig .tc .vmem S1x16 .f32) (h12 : M12.IsWhole)
    (M13 : Memref sig .tc .vmem S1x1 .f32) (h13 : M13.IsWhole)
    (M14 : Memref sig .tc .vmem S2048 .f32) (h14 : M14.IsWhole)
    (f0 : Buf (Elt F) (M0.view.loc (c : Thread nD τ)))    (f1 : Buf (Elt F) (M1.view.loc (c : Thread nD τ)))    (f2 : Buf (Elt F) (M2.view.loc (c : Thread nD τ)))
    (f3 : Buf (Elt F) (M3.view.loc (c : Thread nD τ)))    (f4 : Buf (Elt F) (M4.view.loc (c : Thread nD τ)))    (f5 : Buf (Elt F) (M5.view.loc (c : Thread nD τ)))
    (f6 : Buf (Elt F) (M6.view.loc (c : Thread nD τ)))    (f7 : Buf (Elt F) (M7.view.loc (c : Thread nD τ)))    (f8 : Buf (Elt F) (M8.view.loc (c : Thread nD τ)))
    (f9 : Buf (Elt F) (M9.view.loc (c : Thread nD τ)))    (f10 : Buf (Elt F) (M10.view.loc (c : Thread nD τ)))    (f11 : Buf (Elt F) (M11.view.loc (c : Thread nD τ)))
    (f12 : Buf (Elt F) (M12.view.loc (c : Thread nD τ)))    (f13 : Buf (Elt F) (M13.view.loc (c : Thread nD τ)))    (f14 : Buf (Elt F) (M14.view.loc (c : Thread nD τ)))
    (E : Set ℕ) (Q : PUnit → sProp 𝕄) :
    iprop(pt c M0 f0 ∗ pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗
      (iprop(∃ f' : Buf (Elt F) (M14.view.loc (c : Thread nD τ)),
          ⌜M14.view.read (Elt F) f' = tcBlock (M0.view.read (Elt F) f0) (M1.view.read (Elt F) f1) (M2.view.read (Elt F) f2) (M3.view.read (Elt F) f3) (M4.view.read (Elt F) f4) (M5.view.read (Elt F) f5) (M6.view.read (Elt F) f6) (M7.view.read (Elt F) f7) (M8.view.read (Elt F) f8) (M9.view.read (Elt F) f9) (M10.view.read (Elt F) f10) (M11.view.read (Elt F) f11) (M12.view.read (Elt F) f12) (M13.view.read (Elt F) f13)⌝ ∗
          pt c M0 f0 ∗ pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f') -∗ Q ⟨⟩))
    ⊢ wp frame (wpE (defs₀ (F := F)) 𝒱₀ (c : Thread nD τ) none) E (cc1__tc_body i M0 h0 M1 h1 M2 h2 M3 h3 M4 h4 M5 h5 M6 h6 M7 h7 M8 h8 M9 h9 M10 h10 M11 h11 M12 h12 M13 h13 M14 h14) Q := by
  rw [cc1__tc_body_eq_skeleton, cc1__tc_body_skel]
  simp only [k1_part1_eq_skeleton]
  unfold k1_part1_skel
  iintro ⟨H0, H1, H2, H3, H4, H5, H6, H7, H8, H9, H10, H11, H12, H13, H14, Hk⟩
  sl_exec!
  sl_step
  iapply Hk
  iexists _
  isplitr
  swap
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  ipureintro
  unfold tc_run.sl.H14_1
  rw [read_store_all M14.view _ (by decide) inb_S2048_S2048_0]
  rw [readAt_all M0.view f0 hz2, readAt_all M1.view f1 hz2, readAt_all M2.view f2 hz2, readAt_all M3.view f3 hz2,
    readAt_all M4.view f4 hz2, readAt_all M5.view f5 hz2, readAt_all M6.view f6 hz2, readAt_all M7.view f7 hz2,
    readAt_all M8.view f8 hz2, readAt_all M9.view f9 hz2, readAt_all M10.view f10 hz2, readAt_all M11.view f11 hz2,
    readAt_all M12.view f12 hz2, readAt_all M13.view f13 hz2]
  rfl

/-! ## The proof data of the call, from a valuation of the arrays -/

variable (V : (c : Dev nD) → (b : Ref sig .tc) → Buf (Elt F) ((c : Thread nD τ).loc b))

/-- Window `w`'s array at the valuation. -/
abbrev arrV (c : Dev nD) (w : Fin 15) : Buf (Elt F) ((cfg1.win w).arr.view.loc (c : Thread nD τ)) :=
  V c (Pipeline.arrRef spec1 w)

/-- Window `w`'s block at point `t`, read off the valuation. -/
abbrev blkV (c : Dev nD) (w : Fin 15) (t : Fin cfg1.N) : ((cfg1.win w).xblock (cfg1.grid.coords t)).Idx → Elt F (cfg1.win w).elt :=
  ((cfg1.win w).blk t).view.read (Elt F) (arrV V c w)

/-- The block of scores of point `t`, from the blocks of the fourteen inputs there. -/
def outV (c : Dev nD) (t : Fin cfg1.N) : FVec F S2048 .f32 :=
  tcBlock (blkV V c 0 t) (blkV V c 1 t) (blkV V c 2 t) (blkV V c 3 t) (blkV V c 4 t) (blkV V c 5 t) (blkV V c 6 t) (blkV V c 7 t) (blkV V c 8 t) (blkV V c 9 t) (blkV V c 10 t) (blkV V c 11 t) (blkV V c 12 t) (blkV V c 13 t)

/-- The call's invariant: the scoped buffers no window stages (there are none). -/
abbrev Φc (c : Dev nD) : sProp 𝕄 :=
  Pipeline.scopedRest (Ix := HIx 1) (Name := ℕ) (U := UU) (Lvl := ℕ) (Val := Elt F) spec1 c

/-- The proof data: the arrays at the valuation; the inputs' buffers left at their blocks, the result's at the block of
    scores; nothing owed; the waits recorded so far at or below level 8 (those of the SparseCore call). -/
def dat (c : Dev nD) : Dat τ (Elt F) (HIx 1) ℕ UU ℕ cfg1 c where
  A w := V c (Pipeline.arrRef spec1 w)
  after w t := match w with
    | ⟨0, _⟩ => blkV V c 0 t
    | ⟨1, _⟩ => blkV V c 1 t
    | ⟨2, _⟩ => blkV V c 2 t
    | ⟨3, _⟩ => blkV V c 3 t
    | ⟨4, _⟩ => blkV V c 4 t
    | ⟨5, _⟩ => blkV V c 5 t
    | ⟨6, _⟩ => blkV V c 6 t
    | ⟨7, _⟩ => blkV V c 7 t
    | ⟨8, _⟩ => blkV V c 8 t
    | ⟨9, _⟩ => blkV V c 9 t
    | ⟨10, _⟩ => blkV V c 10 t
    | ⟨11, _⟩ => blkV V c 11 t
    | ⟨12, _⟩ => blkV V c 12 t
    | ⟨13, _⟩ => blkV V c 13 t
    | ⟨14, _⟩ => outV V c t
  Φ _ := Φc c
  q _ := fullShare
  owed _ := 0
  recorded _ := {p | (K (F := F)).lev ((c : Thread nD τ), p.1) p.2 ≤ 8}

/-- The prefetched tables' contents: there is no table. -/
abbrev adm : (p : Fin 1) → (pcfgs (F := F) p).Adm := fun p => (cfgs p).toPCfg_adm

/-- The proof data of the program's one pipeline. -/
def pdats : (p : Fin 1) → (c : Dev nD) → Dat τ (Elt F) (HIx 1) ℕ UU ℕ (Pipeline.pin (pcfgs (F := F)) adm p) c
  | ⟨0, _⟩ => fun c => dat V c

theorem before_in0 (c : Dev nD) (t : Fin cfg1.N) (d : (cfg1.win 0).block.Idx → Elt F (cfg1.win 0).elt) :
    (dat V c).before 0 t d = blkV V c 0 t :=
  (dat V c).before_in_eq_fetched 0 rfl (fun _ => rfl) (fun _ _ _ => rfl) (fun _ => rfl) t d

theorem before_in1 (c : Dev nD) (t : Fin cfg1.N) (d : (cfg1.win 1).block.Idx → Elt F (cfg1.win 1).elt) :
    (dat V c).before 1 t d = blkV V c 1 t :=
  (dat V c).before_in_eq_fetched 1 rfl (fun _ => rfl) (fun _ _ _ => rfl) (fun _ => rfl) t d

theorem before_in2 (c : Dev nD) (t : Fin cfg1.N) (d : (cfg1.win 2).block.Idx → Elt F (cfg1.win 2).elt) :
    (dat V c).before 2 t d = blkV V c 2 t :=
  (dat V c).before_in_eq_fetched 2 rfl (fun _ => rfl) (fun _ _ _ => rfl) (fun _ => rfl) t d

theorem before_in3 (c : Dev nD) (t : Fin cfg1.N) (d : (cfg1.win 3).block.Idx → Elt F (cfg1.win 3).elt) :
    (dat V c).before 3 t d = blkV V c 3 t :=
  (dat V c).before_in_eq_fetched 3 rfl (fun _ => rfl) (fun _ _ _ => rfl) (fun _ => rfl) t d

theorem before_in4 (c : Dev nD) (t : Fin cfg1.N) (d : (cfg1.win 4).block.Idx → Elt F (cfg1.win 4).elt) :
    (dat V c).before 4 t d = blkV V c 4 t :=
  (dat V c).before_in_eq_fetched 4 rfl (fun _ => rfl) (fun _ _ _ => rfl) (fun _ => rfl) t d

theorem before_in5 (c : Dev nD) (t : Fin cfg1.N) (d : (cfg1.win 5).block.Idx → Elt F (cfg1.win 5).elt) :
    (dat V c).before 5 t d = blkV V c 5 t :=
  (dat V c).before_in_eq_fetched 5 rfl (fun _ => rfl) (fun _ _ _ => rfl) (fun _ => rfl) t d

theorem before_in6 (c : Dev nD) (t : Fin cfg1.N) (d : (cfg1.win 6).block.Idx → Elt F (cfg1.win 6).elt) :
    (dat V c).before 6 t d = blkV V c 6 t :=
  (dat V c).before_in_eq_fetched 6 rfl (fun _ => rfl) (fun _ _ _ => rfl) (fun _ => rfl) t d

theorem before_in7 (c : Dev nD) (t : Fin cfg1.N) (d : (cfg1.win 7).block.Idx → Elt F (cfg1.win 7).elt) :
    (dat V c).before 7 t d = blkV V c 7 t :=
  (dat V c).before_in_eq_fetched 7 rfl (fun _ => rfl) (fun _ _ _ => rfl) (fun _ => rfl) t d

theorem before_in8 (c : Dev nD) (t : Fin cfg1.N) (d : (cfg1.win 8).block.Idx → Elt F (cfg1.win 8).elt) :
    (dat V c).before 8 t d = blkV V c 8 t :=
  (dat V c).before_in_eq_fetched 8 rfl (fun _ => rfl) (fun _ _ _ => rfl) (fun _ => rfl) t d

theorem before_in9 (c : Dev nD) (t : Fin cfg1.N) (d : (cfg1.win 9).block.Idx → Elt F (cfg1.win 9).elt) :
    (dat V c).before 9 t d = blkV V c 9 t :=
  (dat V c).before_in_eq_fetched 9 rfl (fun _ => rfl) (fun _ _ _ => rfl) (fun _ => rfl) t d

theorem before_in10 (c : Dev nD) (t : Fin cfg1.N) (d : (cfg1.win 10).block.Idx → Elt F (cfg1.win 10).elt) :
    (dat V c).before 10 t d = blkV V c 10 t :=
  (dat V c).before_in_eq_fetched 10 rfl (fun _ => rfl) (fun _ _ _ => rfl) (fun _ => rfl) t d

theorem before_in11 (c : Dev nD) (t : Fin cfg1.N) (d : (cfg1.win 11).block.Idx → Elt F (cfg1.win 11).elt) :
    (dat V c).before 11 t d = blkV V c 11 t :=
  (dat V c).before_in_eq_fetched 11 rfl (fun _ => rfl) (fun _ _ _ => rfl) (fun _ => rfl) t d

theorem before_in12 (c : Dev nD) (t : Fin cfg1.N) (d : (cfg1.win 12).block.Idx → Elt F (cfg1.win 12).elt) :
    (dat V c).before 12 t d = blkV V c 12 t :=
  (dat V c).before_in_eq_fetched 12 rfl (fun _ => rfl) (fun _ _ _ => rfl) (fun _ => rfl) t d

theorem before_in13 (c : Dev nD) (t : Fin cfg1.N) (d : (cfg1.win 13).block.Idx → Elt F (cfg1.win 13).elt) :
    (dat V c).before 13 t d = blkV V c 13 t :=
  (dat V c).before_in_eq_fetched 13 rfl (fun _ => rfl) (fun _ _ _ => rfl) (fun _ => rfl) t d

/-- A whole memref owned at contents `X`, unfolded. -/
theorem owns_stage (c : Dev nD) {sp : Space} {S : Shape} {e : EltTy} (M : Memref sig .tc sp S e) (h : M.IsWhole)
    (X : S.Idx → Elt F e) :
    (owns (c : Thread nD τ) M fullShare X : sProp 𝕄) = iprop(∃ f, ⌜M.view.read (Elt F) f = X⌝ ∗ pt c M f) := by
  unfold owns
  rw [Memref.IsWhole.set_eq_univ h]

/-- The body's run over staging buffers owned at blocks: the inputs' blocks stay, the result's buffer ends up owned at the
    block of scores. -/
theorem tc_owns (c : Dev nD) (i : grid1.Coords)
    (M0 : Memref sig .tc .vmem S2048x128 .f32) (h0 : M0.IsWhole)
    (M1 : Memref sig .tc .vmem S2048x128 .f32) (h1 : M1.IsWhole)
    (M2 : Memref sig .tc .vmem S2048x128 .f32) (h2 : M2.IsWhole)
    (M3 : Memref sig .tc .vmem S2048x128 .f32) (h3 : M3.IsWhole)
    (M4 : Memref sig .tc .vmem S128x64 .f32) (h4 : M4.IsWhole)
    (M5 : Memref sig .tc .vmem S128x64 .f32) (h5 : M5.IsWhole)
    (M6 : Memref sig .tc .vmem S1x64 .f32) (h6 : M6.IsWhole)
    (M7 : Memref sig .tc .vmem S64x32 .f32) (h7 : M7.IsWhole)
    (M8 : Memref sig .tc .vmem S1x32 .f32) (h8 : M8.IsWhole)
    (M9 : Memref sig .tc .vmem S32x16 .f32) (h9 : M9.IsWhole)
    (M10 : Memref sig .tc .vmem S1x16 .f32) (h10 : M10.IsWhole)
    (M11 : Memref sig .tc .vmem S1x128 .f32) (h11 : M11.IsWhole)
    (M12 : Memref sig .tc .vmem S1x16 .f32) (h12 : M12.IsWhole)
    (M13 : Memref sig .tc .vmem S1x1 .f32) (h13 : M13.IsWhole)
    (M14 : Memref sig .tc .vmem S2048 .f32) (h14 : M14.IsWhole)
    (X0 : S2048x128.Idx → Elt F .f32)
    (X1 : S2048x128.Idx → Elt F .f32)
    (X2 : S2048x128.Idx → Elt F .f32)
    (X3 : S2048x128.Idx → Elt F .f32)
    (X4 : S128x64.Idx → Elt F .f32)
    (X5 : S128x64.Idx → Elt F .f32)
    (X6 : S1x64.Idx → Elt F .f32)
    (X7 : S64x32.Idx → Elt F .f32)
    (X8 : S1x32.Idx → Elt F .f32)
    (X9 : S32x16.Idx → Elt F .f32)
    (X10 : S1x16.Idx → Elt F .f32)
    (X11 : S1x128.Idx → Elt F .f32)
    (X12 : S1x16.Idx → Elt F .f32)
    (X13 : S1x1.Idx → Elt F .f32)
    (X14 : S2048.Idx → Elt F .f32)
    (E : Set ℕ) (Q : PUnit → sProp 𝕄) :
    iprop(owns (c : Thread nD τ) M0 fullShare X0 ∗ owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗ owns (c : Thread nD τ) M9 fullShare X9 ∗ owns (c : Thread nD τ) M10 fullShare X10 ∗ owns (c : Thread nD τ) M11 fullShare X11 ∗ owns (c : Thread nD τ) M12 fullShare X12 ∗ owns (c : Thread nD τ) M13 fullShare X13 ∗ owns (c : Thread nD τ) M14 fullShare X14 ∗
      (iprop(owns (c : Thread nD τ) M0 fullShare X0 ∗ owns (c : Thread nD τ) M1 fullShare X1 ∗ owns (c : Thread nD τ) M2 fullShare X2 ∗ owns (c : Thread nD τ) M3 fullShare X3 ∗ owns (c : Thread nD τ) M4 fullShare X4 ∗ owns (c : Thread nD τ) M5 fullShare X5 ∗ owns (c : Thread nD τ) M6 fullShare X6 ∗ owns (c : Thread nD τ) M7 fullShare X7 ∗ owns (c : Thread nD τ) M8 fullShare X8 ∗ owns (c : Thread nD τ) M9 fullShare X9 ∗ owns (c : Thread nD τ) M10 fullShare X10 ∗ owns (c : Thread nD τ) M11 fullShare X11 ∗ owns (c : Thread nD τ) M12 fullShare X12 ∗ owns (c : Thread nD τ) M13 fullShare X13 ∗
          owns (c : Thread nD τ) M14 fullShare (tcBlock X0 X1 X2 X3 X4 X5 X6 X7 X8 X9 X10 X11 X12 X13)) -∗ Q ⟨⟩))
    ⊢ wp frame (wpE (defs₀ (F := F)) 𝒱₀ (c : Thread nD τ) none) E (cc1__tc_body i M0 h0 M1 h1 M2 h2 M3 h3 M4 h4 M5 h5 M6 h6 M7 h7 M8 h8 M9 h9 M10 h10 M11 h11 M12 h12 M13 h13 M14 h14) Q := by
  rw [owns_stage c M0 h0]
  rw [owns_stage c M1 h1]
  rw [owns_stage c M2 h2]
  rw [owns_stage c M3 h3]
  rw [owns_stage c M4 h4]
  rw [owns_stage c M5 h5]
  rw [owns_stage c M6 h6]
  rw [owns_stage c M7 h7]
  rw [owns_stage c M8 h8]
  rw [owns_stage c M9 h9]
  rw [owns_stage c M10 h10]
  rw [owns_stage c M11 h11]
  rw [owns_stage c M12 h12]
  rw [owns_stage c M13 h13]
  simp only [owns_stage c M14 h14]
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  subst hf0 hf1 hf2 hf3 hf4 hf5 hf6 hf7 hf8 hf9 hf10 hf11 hf12 hf13
  iapply (tc_run (F := F) c i M0 h0 M1 h1 M2 h2 M3 h3 M4 h4 M5 h5 M6 h6 M7 h7 M8 h8 M9 h9 M10 h10 M11 h11 M12 h12 M13 h13 M14 h14 f0 f1 f2 f3 f4 f5 f6 f7 f8 f9 f10 f11 f12 f13 f14 E Q)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iintro ⟨%f', %hf', H0, H1, H2, H3, H4, H5, H6, H7, H8, H9, H10, H11, H12, H13, H14⟩
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]; · iexists f4; isplitr; (· ipureintro; rfl); iexact H4
  isplitl [H5]; · iexists f5; isplitr; (· ipureintro; rfl); iexact H5
  isplitl [H6]; · iexists f6; isplitr; (· ipureintro; rfl); iexact H6
  isplitl [H7]; · iexists f7; isplitr; (· ipureintro; rfl); iexact H7
  isplitl [H8]; · iexists f8; isplitr; (· ipureintro; rfl); iexact H8
  isplitl [H9]; · iexists f9; isplitr; (· ipureintro; rfl); iexact H9
  isplitl [H10]; · iexists f10; isplitr; (· ipureintro; rfl); iexact H10
  isplitl [H11]; · iexists f11; isplitr; (· ipureintro; rfl); iexact H11
  isplitl [H12]; · iexists f12; isplitr; (· ipureintro; rfl); iexact H12
  isplitl [H13]; · iexists f13; isplitr; (· ipureintro; rfl); iexact H13
  iexists f'; isplitr; (· ipureintro; exact hf'); iexact H14

theorem after0 (c : Dev nD) (t : Fin cfg1.N) : (dat V c).after 0 t = blkV V c 0 t := rfl

theorem after1 (c : Dev nD) (t : Fin cfg1.N) : (dat V c).after 1 t = blkV V c 1 t := rfl

theorem after2 (c : Dev nD) (t : Fin cfg1.N) : (dat V c).after 2 t = blkV V c 2 t := rfl

theorem after3 (c : Dev nD) (t : Fin cfg1.N) : (dat V c).after 3 t = blkV V c 3 t := rfl

theorem after4 (c : Dev nD) (t : Fin cfg1.N) : (dat V c).after 4 t = blkV V c 4 t := rfl

theorem after5 (c : Dev nD) (t : Fin cfg1.N) : (dat V c).after 5 t = blkV V c 5 t := rfl

theorem after6 (c : Dev nD) (t : Fin cfg1.N) : (dat V c).after 6 t = blkV V c 6 t := rfl

theorem after7 (c : Dev nD) (t : Fin cfg1.N) : (dat V c).after 7 t = blkV V c 7 t := rfl

theorem after8 (c : Dev nD) (t : Fin cfg1.N) : (dat V c).after 8 t = blkV V c 8 t := rfl

theorem after9 (c : Dev nD) (t : Fin cfg1.N) : (dat V c).after 9 t = blkV V c 9 t := rfl

theorem after10 (c : Dev nD) (t : Fin cfg1.N) : (dat V c).after 10 t = blkV V c 10 t := rfl

theorem after11 (c : Dev nD) (t : Fin cfg1.N) : (dat V c).after 11 t = blkV V c 11 t := rfl

theorem after12 (c : Dev nD) (t : Fin cfg1.N) : (dat V c).after 12 t = blkV V c 12 t := rfl

theorem after13 (c : Dev nD) (t : Fin cfg1.N) : (dat V c).after 13 t = blkV V c 13 t := rfl

theorem after14 (c : Dev nD) (t : Fin cfg1.N) : (dat V c).after 14 t = outV V c t := rfl

/-- The library's obligation on the body, at every point: the buffers at their blocks, the body run, the result's buffer
    at the block of scores. -/
theorem body_obligation (c : Dev nD) : BodyObligation (dat V c) (defs₀ (F := F)) 𝒱₀ (none : HIx 1) Set.univ := fun t => by
  rw [bigSep_W1, bigSep_W1]
  rw [show (dat V c).Φ t.castSucc = Φc c from rfl, show (dat V c).Φ t.succ = Φc c from rfl,
    show (dat V c).owesAt none t.succ = (dat V c).owesAt none t.castSucc from rfl]
  simp only [before_in0, after0, before_in1, after1, before_in2, after2, before_in3, after3, before_in4, after4, before_in5, after5, before_in6, after6, before_in7, after7, before_in8, after8, before_in9, after9, before_in10, after10, before_in11, after11, before_in12, after12, before_in13, after13, after14]
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (tc_owns (F := F) c (grid1.coords t) (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5)) (st1_6 t) (hstage1_6 ((cfg1.slots t 6).cast nbuf1_6)) (st1_7 t) (hstage1_7 ((cfg1.slots t 7).cast nbuf1_7)) (st1_8 t) (hstage1_8 ((cfg1.slots t 8).cast nbuf1_8)) (st1_9 t) (hstage1_9 ((cfg1.slots t 9).cast nbuf1_9)) (st1_10 t) (hstage1_10 ((cfg1.slots t 10).cast nbuf1_10)) (st1_11 t) (hstage1_11 ((cfg1.slots t 11).cast nbuf1_11)) (st1_12 t) (hstage1_12 ((cfg1.slots t 12).cast nbuf1_12)) (st1_13 t) (hstage1_13 ((cfg1.slots t 13).cast nbuf1_13)) (st1_14 t) (hstage1_14 ((cfg1.slots t 14).cast nbuf1_14)) (blkV V c 0 t) (blkV V c 1 t) (blkV V c 2 t) (blkV V c 3 t) (blkV V c 4 t) (blkV V c 5 t) (blkV V c 6 t) (blkV V c 7 t) (blkV V c 8 t) (blkV V c 9 t) (blkV V c 10 t) (blkV V c 11 t) (blkV V c 12 t) (blkV V c 13 t) _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iintro ⟨H0, H1, H2, H3, H4, H5, H6, H7, H8, H9, H10, H11, H12, H13, H14⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

end Cert.Proof.Ideal

end
-- ==== Proof.Ideal.Seg.lean ====
/-
  The TensorCore call as one segment of the program: entered from the unscoped buffers at any valuation, left with the
  result's array at the eight blocks of scores written back and every other buffer as it was.
-/
module

public import proofs.«01_k».proof.Proof.Ideal.Region
public import Idealize.ShloMosaic.Lib.Pipeline.RegionsLoop

@[expose] public section

noncomputable section

namespace Cert.Proof.Ideal

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

variable (V : (c : Dev nD) → (b : Ref sig .tc) → Buf (Elt F) ((c : Thread nD τ).loc b))
variable (Vp : (c : Dev nD) → (b : Ref sig .tc) → Buf (Elt F) ((c : Thread nD τ).loc b))

/-- The result's array after the call: the write-backs of the eight blocks of scores. -/
def scored (c : Dev nD) : Buf (Elt F) ((c : Thread nD τ).loc main_v13) := (dat V c).arrAt 14 cfg1.N

/-- The thread state between the calls: nothing owed, every recorded wait at or below level 8. -/
abbrev idleOwes (c : Dev nD) : sProp 𝕄 :=
  iprop(∃ W, ⌜(K (F := F)).WBelow (c : Thread nD τ) W 8⌝ ∗ owes (c : Thread nD τ) (0 : CellTallies nD τ sig (HIx 1)) W)

set_option backward.isDefEq.respectTransparency.types false in
/-- The call over the thread state "every unscoped buffer at the valuation, nothing owed". -/
def reg (hVp_out : ∀ c, Vp c main_v13 = scored V c) (hVp_ne : ∀ c (b : Ref sig .tc), b ≠ main_v13 → Vp c b = V c b) :
    Pipeline.RegionSeg (pcfgs (F := F)) adm (pdats V) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V c).loose
  hwaits := Pipeline.hwaits_of_owed_zero _ _ _ _ (K (F := F)).L (K (F := F)).lev 0 fun _ _ => rfl
  pre c := iprop(unscopedBufs c (V c) ∗ idleOwes (F := F) c)
  post c := iprop(unscopedBufs c (Vp c) ∗ idleOwes (F := F) c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V) launch1.win launch1.arr_whole c
      ((pdats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V 0 c).Φ 0 = Φc c from rfl]
    iintro ⟨-, -, Hr⟩; iexact Hr
  hout c := by
    rw [Pipeline.ownSems0_none, show (pdats V 0 c).Φ (Fin.last _) = Φc c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win launch1.arr_whole c
      (pdats V) ((pdats V 0 c).share_full fun _ => rfl) (V c) (Vp c) ((pdats V 0 c).arrAt · cfg1.N)
      (fun w => by
        fin_cases w
        · exact ((pdats V 0 c).arrAt_in 0 rfl _).trans (hVp_ne c main_v0_0 (by decide)).symm
        · exact ((pdats V 0 c).arrAt_in 1 rfl _).trans (hVp_ne c main_v0_1 (by decide)).symm
        · exact ((pdats V 0 c).arrAt_in 2 rfl _).trans (hVp_ne c main_v0_2 (by decide)).symm
        · exact ((pdats V 0 c).arrAt_in 3 rfl _).trans (hVp_ne c main_v0_3 (by decide)).symm
        · exact ((pdats V 0 c).arrAt_in 4 rfl _).trans (hVp_ne c main_v1 (by decide)).symm
        · exact ((pdats V 0 c).arrAt_in 5 rfl _).trans (hVp_ne c main_v2 (by decide)).symm
        · exact ((pdats V 0 c).arrAt_in 6 rfl _).trans (hVp_ne c main_v9 (by decide)).symm
        · exact ((pdats V 0 c).arrAt_in 7 rfl _).trans (hVp_ne c main_arg8 (by decide)).symm
        · exact ((pdats V 0 c).arrAt_in 8 rfl _).trans (hVp_ne c main_v10 (by decide)).symm
        · exact ((pdats V 0 c).arrAt_in 9 rfl _).trans (hVp_ne c main_arg10 (by decide)).symm
        · exact ((pdats V 0 c).arrAt_in 10 rfl _).trans (hVp_ne c main_v11 (by decide)).symm
        · exact ((pdats V 0 c).arrAt_in 11 rfl _).trans (hVp_ne c main_v5 (by decide)).symm
        · exact ((pdats V 0 c).arrAt_in 12 rfl _).trans (hVp_ne c main_v8 (by decide)).symm
        · exact ((pdats V 0 c).arrAt_in 13 rfl _).trans (hVp_ne c main_v12 (by decide)).symm
        · exact (hVp_out c).symm)
      (fun b hb => hVp_ne c b fun h => hb (h ▸ Finset.mem_image.mpr ⟨14, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr; swap; · iexact HO
    ipureintro
    intro p hp
    rcases hW hp with h | ⟨w, s, h⟩
    · exact h
    · subst h; exact Nat.zero_le _

end Cert.Proof.Ideal

end
-- ==== Proof.Ideal.Main.lean ====
/-
  The whole program: the SparseCore call hands its arrays out and takes them back gathered, the host slices and reshapes
  the weights, the TensorCore call scores. From that, the program's run from any launch memory whose ids are rows.
-/
module

public import proofs.«01_k».proof.Proof.Ideal.Seg

@[expose] public section

noncomputable section

namespace Cert.Proof.Ideal

open Cert.KernelIdeal Cert.KernelIdeal.Gen

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held after)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The ghost state dealt at launch -/

/-- The SparseCore handshakes' rounds, in the certificate's ghost state. -/
abbrev EH : Emb UH (MT nD τ sig (HIx 1) (Elt F) ℕ UU ℕ) := embL
/-- The pipeline's rounds. -/
abbrev EP : Emb UK (MT nD τ sig (HIx 1) (Elt F) ℕ UU ℕ) := (Emb.inl : Emb UK (UK × Counters)).trans embR

/-- The pipeline the program's TensorCore call runs. -/
abbrev pins := Pipeline.pin (pcfgs (F := F)) adm
theorem pins_inj : Function.Injective (Pipeline.cellOf (nD := nD) (τ := τ) (pins (F := F))) := cellOf_inj

/-- What the launch deals device `d` for its TensorCore call. -/
abbrev G (d : Dev nD) : sProp 𝕄 :=
  iprop(Pipeline.cellsGhost (pins (F := F)) EP 0 d ∗ Pipeline.toksInit (pins (F := F)) EP 0 d)

/-- The launch element of the certificate's ghost state. -/
def u₀ : UU := (initOf (K (F := F)).hsCells (K (F := F)).hsToks,
  (initOf (Pipeline.cells (pins (F := F)) pins_inj) (Pipeline.launchToks (pins (F := F)) pins_inj), 1))

/-- Nothing for everyone is nothing. -/
theorem all_emp {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks)
    ((initOf (Pipeline.cells (pins (F := F)) pins_inj) (Pipeline.launchToks (pins (F := F)) pins_inj), 1) : UK × Counters)) $$ Hu
  icases H with ⟨HH, HR⟩
  ihave H := (own_pair_emb (embR : Emb (UK × Counters) 𝕄) (initOf (Pipeline.cells (pins (F := F)) pins_inj) (Pipeline.launchToks (pins (F := F)) pins_inj))
    (1 : Counters)) $$ HR
  icases H with ⟨HP, -⟩
  imod (Pipeline.fund_ghost (pins (F := F)) (EP : Emb UK 𝕄) pins_inj) $$ HP with ⟨Hg, Htok⟩
  imodintro
  isplitl [HH]; · iexact HH
  isplitl [Hg Htok]
  · rw [show (bigSep Finset.univ fun d : Dev nD => G (F := F) d)
        = iprop((bigSep Finset.univ fun d : Dev nD => Pipeline.cellsGhost (pins (F := F)) EP 0 d)
          ∗ bigSep Finset.univ fun d : Dev nD => Pipeline.toksInit (pins (F := F)) EP 0 d) from BI.bigSep_sep' _ _ _]
    isplitl [Hg]
    · rw [show (bigSep Finset.univ fun d : Dev nD => Pipeline.cellsGhost (pins (F := F)) EP 0 d)
          = bigSep Finset.univ fun d : Dev nD => bigSep Finset.univ fun p : Fin 1 => Pipeline.cellsGhost (pins (F := F)) EP p d from
        bigSep_congr fun _ _ => by rw [bigSep_univ_of_subsingleton (0 : Fin 1)]]
      iexact Hg
    · rw [show (bigSep Finset.univ fun d : Dev nD => Pipeline.toksInit (pins (F := F)) EP 0 d)
          = bigSep Finset.univ fun d : Dev nD => bigSep Finset.univ fun p : Fin 1 => Pipeline.toksInit (pins (F := F)) EP p d from
        bigSep_congr fun _ _ => by rw [bigSep_univ_of_subsingleton (0 : Fin 1)]]
      iexact Htok
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), all_emp]
  iempintro

/-! ## The host operations and the valuations between the calls -/

/-- The host operations between the two calls: slices and reshapes of the weights. -/
def hostOps : List (HloOp τ sig (Elt F)) :=
  [StableHlo.unary main_arg6 main_v1 ((extractStridedSlice S128x64 ![0, 0] · slices_S256x64_S128x64_0_0) : (⟨S256x64, .f32⟩ : BufTy).Contents (Elt F) → (⟨S128x64, .f32⟩ : BufTy).Contents (Elt F)),
   StableHlo.unary main_arg6 main_v2 ((extractStridedSlice S128x64 ![128, 0] · slices_S256x64_S128x64_128_0) : (⟨S256x64, .f32⟩ : BufTy).Contents (Elt F) → (⟨S128x64, .f32⟩ : BufTy).Contents (Elt F)),
   StableHlo.unary main_arg12 main_v3 ((extractStridedSlice S128x1 ![0, 0] · slices_S144x1_S128x1_0_0) : (⟨S144x1, .f32⟩ : BufTy).Contents (Elt F) → (⟨S128x1, .f32⟩ : BufTy).Contents (Elt F)),
   StableHlo.reshape main_v3 main_v4 (rfl : (.f32 : EltTy) = .f32) shapeCasts_S128x1_S128,
   StableHlo.reshape main_v4 main_v5 (rfl : (.f32 : EltTy) = .f32) shapeCasts_S128_S1x128,
   StableHlo.unary main_arg12 main_v6 ((extractStridedSlice S16x1 ![128, 0] · slices_S144x1_S16x1_128_0) : (⟨S144x1, .f32⟩ : BufTy).Contents (Elt F) → (⟨S16x1, .f32⟩ : BufTy).Contents (Elt F)),
   StableHlo.reshape main_v6 main_v7 (rfl : (.f32 : EltTy) = .f32) shapeCasts_S16x1_S16,
   StableHlo.reshape main_v7 main_v8 (rfl : (.f32 : EltTy) = .f32) shapeCasts_S16_S1x16,
   StableHlo.reshape main_arg7 main_v9 (rfl : (.f32 : EltTy) = .f32) shapeCasts_S64_S1x64,
   StableHlo.reshape main_arg9 main_v10 (rfl : (.f32 : EltTy) = .f32) shapeCasts_S32_S1x32,
   StableHlo.reshape main_arg11 main_v11 (rfl : (.f32 : EltTy) = .f32) shapeCasts_S16_S1x16,
   StableHlo.reshape main_arg13 main_v12 (rfl : (.f32 : EltTy) = .f32) shapeCasts_S1_S1x1]

/-- The program: the SparseCore call, the host operations, the TensorCore call. -/
theorem main_eq (d : Dev nD) :
    main (F := F) d = (K (F := F)).run d 0 >>= fun _ => StableHlo.seq hostOps >>= fun _ =>
      SparseCore.liftProg (.op (.customCall (Pipeline.entry 0) ()) fun _ => .ret ⟨⟩) := rfl

/-- The TensorCore's references outside any scope. -/
def ucRefs : Finset (DevRef τ sig) := (StableHlo.tcRefs τ sig).filter fun b => ¬ b.isScoped

/-- The unscoped buffers at a valuation are that set held at it. -/
theorem unscopedBufs_held (c : Dev nD) (W : Valuation τ sig (Elt F)) :
    (unscopedBufs c (fun b => W b) : sProp 𝕄) = held (c : Thread nD τ) ucRefs W := by
  unfold unscopedBufs held ucRefs StableHlo.tcRefs
  rw [Finset.filter_map, bigSep_map]
  rfl

/-- The arrays of the SparseCore call. -/
def scRefs : Finset (DevRef τ sig) :=
  {Proc.devRef .tc main_arg0, Proc.devRef .tc main_arg1, Proc.devRef .tc main_arg2, Proc.devRef .tc main_arg3, Proc.devRef .tc main_arg4,
    Proc.devRef .tc main_arg5, Proc.devRef .tc main_v0_0, Proc.devRef .tc main_v0_1, Proc.devRef .tc main_v0_2, Proc.devRef .tc main_v0_3}

theorem scRefs_sub : scRefs ⊆ ucRefs := by decide

/-- The launch memory, as device `d`'s valuation. -/
abbrev V0 (d : Dev nD) : Valuation τ sig (Elt F) := fun b => m (d, b)
/-- After the SparseCore call: the four gathered arrays hold the lookups. -/
def V1 (d : Dev nD) : Valuation τ sig (Elt F) :=
  Function.update (Function.update (Function.update (Function.update (V0 m d) (Proc.devRef .tc main_v0_0) (G0 m d))
    (Proc.devRef .tc main_v0_1) (G1 m d)) (Proc.devRef .tc main_v0_2) (G2 m d)) (Proc.devRef .tc main_v0_3) (G3 m d)
/-- After the host operations. -/
def V2 (d : Dev nD) : Valuation τ sig (Elt F) := after hostOps (V1 m d)
/-- The same, read at the TensorCore's references. -/
abbrev V2r (d : Dev nD) (b : Ref sig .tc) : Buf (Elt F) ((d : Thread nD τ).loc b) := V2 m d b
/-- After the TensorCore call. -/
def V3 (d : Dev nD) : Valuation τ sig (Elt F) := Function.update (V2 m d) (Proc.devRef .tc main_v13) (scored (V2r m) d)
abbrev V3r (d : Dev nD) (b : Ref sig .tc) : Buf (Elt F) ((d : Thread nD τ).loc b) := V3 m d b

theorem V3_out (d : Dev nD) : V3r m d main_v13 = scored (V2r m) d := Function.update_self ..
theorem V3_ne (d : Dev nD) (b : Ref sig .tc) (h : b ≠ main_v13) : V3r m d b = V2r m d b :=
  Function.update_of_ne (fun e => h (Proc.devRef_injective _ e)) ..

theorem V1_v0_3 (d : Dev nD) : V1 m d (Proc.devRef .tc main_v0_3) = G3 m d := by unfold V1; rw [Function.update_self]
theorem V1_v0_2 (d : Dev nD) : V1 m d (Proc.devRef .tc main_v0_2) = G2 m d := by
  unfold V1; rw [Function.update_of_ne (by decide), Function.update_self]
theorem V1_v0_1 (d : Dev nD) : V1 m d (Proc.devRef .tc main_v0_1) = G1 m d := by
  unfold V1; rw [Function.update_of_ne (by decide), Function.update_of_ne (by decide), Function.update_self]
theorem V1_v0_0 (d : Dev nD) : V1 m d (Proc.devRef .tc main_v0_0) = G0 m d := by
  unfold V1; rw [Function.update_of_ne (by decide), Function.update_of_ne (by decide), Function.update_of_ne (by decide), Function.update_self]
theorem V1_ne (d : Dev nD) (b : DevRef τ sig) (h0 : b ≠ Proc.devRef .tc main_v0_0) (h1 : b ≠ Proc.devRef .tc main_v0_1)
    (h2 : b ≠ Proc.devRef .tc main_v0_2) (h3 : b ≠ Proc.devRef .tc main_v0_3) : V1 m d b = m (d, b) := by
  unfold V1; rw [Function.update_of_ne h3, Function.update_of_ne h2, Function.update_of_ne h1, Function.update_of_ne h0]

theorem rest_eq (d : Dev nD) : (held (d : Thread nD τ) (ucRefs \ scRefs) (V0 m d) : sProp 𝕄) = held (d : Thread nD τ) (ucRefs \ scRefs) (V1 m d) :=
  StableHlo.held_congr _ fun b hb => by
    have hb' := (Finset.mem_sdiff.mp hb).2
    refine (V1_ne m d b ?_ ?_ ?_ ?_).symm <;> (rintro rfl; exact hb' (by decide))

/-- The arrays of the SparseCore call, one by one. -/
theorem held_sc (d : Dev nD) (W : Valuation τ sig (Elt F)) :
    (held (d : Thread nD τ) scRefs W : sProp 𝕄) = iprop((uLoc d ↦{fullShare} W (Proc.devRef .tc main_arg0)) ∗ (iLoc d ↦{fullShare} W (Proc.devRef .tc main_arg1))
      ∗ (t0Loc d ↦{fullShare} W (Proc.devRef .tc main_arg2)) ∗ (t1Loc d ↦{fullShare} W (Proc.devRef .tc main_arg3))
      ∗ (t2Loc d ↦{fullShare} W (Proc.devRef .tc main_arg4)) ∗ (t3Loc d ↦{fullShare} W (Proc.devRef .tc main_arg5))
      ∗ (o0Loc d ↦{fullShare} W (Proc.devRef .tc main_v0_0)) ∗ (o1Loc d ↦{fullShare} W (Proc.devRef .tc main_v0_1))
      ∗ (o2Loc d ↦{fullShare} W (Proc.devRef .tc main_v0_2)) ∗ (o3Loc d ↦{fullShare} W (Proc.devRef .tc main_v0_3))) := by
  unfold held scRefs
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- All tiles' pieces, at whatever the gathered arrays hold, are the ten arrays whole. -/
theorem tiles_eq (d : Dev nD) (f0 : Buf (Elt F) (o0Loc d)) (f1 : Buf (Elt F) (o1Loc d)) (f2 : Buf (Elt F) (o2Loc d)) (f3 : Buf (Elt F) (o3Loc d)) :
    (bigSep Finset.univ fun c : Fin 2 => bigSep Finset.univ fun i : Fin 16 => iprop(tileReads m d c i ∗ tileOuts d c i f0 f1 f2 f3) : sProp 𝕄)
      = iprop(((uLoc d ↦{fullShare} m (uLoc d)) ∗ (iLoc d ↦{fullShare} m (iLoc d)) ∗ (t0Loc d ↦{fullShare} m (t0Loc d)) ∗ (t1Loc d ↦{fullShare} m (t1Loc d))
        ∗ (t2Loc d ↦{fullShare} m (t2Loc d)) ∗ (t3Loc d ↦{fullShare} m (t3Loc d)))
        ∗ (o0Loc d ↦{fullShare} f0) ∗ (o1Loc d ↦{fullShare} f1) ∗ (o2Loc d ↦{fullShare} f2) ∗ (o3Loc d ↦{fullShare} f3)) := by
  rw [pts_tiles (uLoc d), pts_tiles (iLoc d), pts_tiles (t0Loc d), pts_tiles (t1Loc d), pts_tiles (t2Loc d), pts_tiles (t3Loc d),
    o0_chunks, o1_chunks, o2_chunks, o3_chunks]
  simp only [BI.bigSep_sep']

theorem st0_eq (d : Dev nD) : (bigSep Finset.univ fun c : Fin ((K (F := F)).nCore 0) => (P m).st 0 d c)
    = (bigSep Finset.univ fun c : Fin 2 => bigSep Finset.univ fun i : Fin 16 => tin m d c i : sProp 𝕄) := rfl
theorem dn0_eq (d : Dev nD) : (bigSep Finset.univ fun c : Fin ((K (F := F)).nCore 0) => (P m).dn 0 d c)
    = (bigSep Finset.univ fun c : Fin 2 => bigSep Finset.univ fun i : Fin 16 => tout m d c i : sProp 𝕄) := rfl

/-- What the call is handed is its arrays as launched. -/
theorem give (d : Dev nD) : (held (d : Thread nD τ) scRefs (V0 m d) : sProp 𝕄)
    ⊢ bigSep Finset.univ fun c : Fin ((K (F := F)).nCore 0) => (P m).st 0 d c := by
  rw [held_sc, st0_eq, tiles_eq]
  iintro ⟨H0, H1, H2, H3, H4, H5, H6⟩
  isplitr [H6]
  · isplitl [H0]; · iexact H0
    isplitl [H1]; · iexact H1
    isplitl [H2]; · iexact H2
    isplitl [H3]; · iexact H3
    isplitl [H4]; · iexact H4
    iexact H5
  iexact H6

/-- What the call brings back is its arrays with the lookups in the gathered ones. -/
theorem take (d : Dev nD) : (bigSep Finset.univ fun c : Fin ((K (F := F)).nCore 0) => (P m).dn 0 d c)
    ⊢ (held (d : Thread nD τ) scRefs (V1 m d) : sProp 𝕄) := by
  rw [held_sc, dn0_eq, tiles_eq, V1_v0_0, V1_v0_1, V1_v0_2, V1_v0_3, V1_ne m d (Proc.devRef .tc main_arg0) (by decide) (by decide) (by decide) (by decide),
    V1_ne m d (Proc.devRef .tc main_arg1) (by decide) (by decide) (by decide) (by decide),
    V1_ne m d (Proc.devRef .tc main_arg2) (by decide) (by decide) (by decide) (by decide),
    V1_ne m d (Proc.devRef .tc main_arg3) (by decide) (by decide) (by decide) (by decide),
    V1_ne m d (Proc.devRef .tc main_arg4) (by decide) (by decide) (by decide) (by decide),
    V1_ne m d (Proc.devRef .tc main_arg5) (by decide) (by decide) (by decide) (by decide)]
  iintro ⟨⟨H0, H1, H2, H3, H4, H5⟩, H6⟩
  isplitl [H0]; · iexact H0
  isplitl [H1]; · iexact H1
  isplitl [H2]; · iexact H2
  isplitl [H3]; · iexact H3
  isplitl [H4]; · iexact H4
  isplitl [H5]; · iexact H5
  iexact H6

/-- An operation on TensorCore references only touches unscoped ones only. -/
theorem sub_ucRefs (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

theorem hostOps_sub : ∀ op ∈ hostOps (F := F), op.bufs ⊆ ucRefs := by
  intro op hop
  simp only [hostOps, List.mem_cons, List.mem_nil_iff, or_false] at hop
  rcases hop with rfl | rfl | rfl | rfl | rfl | rfl | rfl | rfl | rfl | rfl | rfl | rfl <;>
    first
    | exact sub_ucRefs _ (StableHlo.unary_bufs_sub ..)
    | exact sub_ucRefs _ (StableHlo.reshape_bufs_sub ..)
/-- The host operations write the sliced and reshaped weights only. -/
theorem not_written (b : Ref sig .tc) (hb : b ∉ ({main_v1, main_v2, main_v3, main_v4, main_v5, main_v6, main_v7, main_v8, main_v9, main_v10,
    main_v11, main_v12} : Finset (Ref sig .tc))) : ∀ op ∈ hostOps (F := F), Proc.devRef .tc b ∉ op.writes := by
  intro op hop
  simp only [hostOps, List.mem_cons, List.mem_nil_iff, or_false] at hop
  rcases hop with rfl | rfl | rfl | rfl | rfl | rfl | rfl | rfl | rfl | rfl | rfl | rfl <;>
    simp only [StableHlo.unary_writes, StableHlo.reshape_writes, Finset.mem_singleton] <;>
    exact StableHlo.devRef_ne_of_ne (by rintro rfl; exact hb (by decide))
theorem hostOps_fresh : ∀ op ∈ hostOps (F := F), op.fresh = ∅ := by
  intro op h
  unfold hostOps at h
  (repeat (cases h with | head => rfl | tail _ h => ?_)); exact nomatch h

/-! ## @main on the TensorCore -/

/-- What @main leaves: every unscoped buffer at the last valuation. -/
abbrev FIN (d : Dev nD) : sProp 𝕄 := unscopedBufs d (V3r m d)

/-- The TensorCore call under the program's own body table. -/
theorem tc_call [∀ e, Nonempty (Elt F e)] (d : Dev nD) (Φ : PUnit → sProp 𝕄) :
    iprop((iprop(boundary (d : Thread nD τ) ∗ FIN m d ∗ idleOwes (F := F) d) -∗ Φ ⟨⟩)
        ∗ boundary (d : Thread nD τ) ∗ (unscopedBufs d (V2r m d) ∗ idleOwes (F := F) d) ∗ levAts (K (F := F)).L (K (F := F)).lev ∗ G (F := F) d)
      ⊢ wp frame (wpE ((K (F := F)).defs (D (F := F))) 𝒱 (SparseCore.T d) none) Set.univ
          (SparseCore.liftProg (.op (.customCall (Pipeline.entry 0) ()) fun _ => .ret ⟨⟩)) Φ := by
  refine BI.Entails.trans ?_ ((K (F := F)).wp_liftProg (D (F := F)) 𝒱 (SparseCore.T d) Set.univ none _ Φ)
  refine BI.Entails.trans ?_ (Pipeline.RegionSeg.wp (pcfgs (F := F)) adm (pdats (V2r m)) (none : HIx 1) pins_inj EP defs₀ 𝒱₀
    (K (F := F)).L (K (F := F)).lev (reg (V2r m) (V3r m) (V3_out m) (V3_ne m)) d none (fun _ h => nomatch h) _ Φ)
  show iprop((iprop(boundary (d : Thread nD τ) ∗ FIN m d ∗ idleOwes (F := F) d) -∗ Φ ⟨⟩)
        ∗ boundary (d : Thread nD τ) ∗ (unscopedBufs d (V2r m d) ∗ idleOwes (F := F) d) ∗ levAts (K (F := F)).L (K (F := F)).lev ∗ G (F := F) d) ⊢ (_ : sProp 𝕄)
  iintro ⟨Hk, Hb, Hpre, Hlev, Hg⟩
  isplitl [Hk]
  · iintro ⟨Hb, Hpost⟩
    rw [wp_ret]; imodintro
    ihave Hpost := (show (reg (V2r m) (V3r m) (V3_out m) (V3_ne m)).post d ⊢ iprop(FIN m d ∗ idleOwes (F := F) d) from .rfl) $$ Hpost
    iapply Hk
    isplitl [Hb]; · iexact Hb
    iexact Hpost
  isplitl [Hb]; · iexact Hb
  isplitl [Hpre]; · iapply (show iprop(unscopedBufs d (V2r m d) ∗ idleOwes (F := F) d) ⊢ (reg (V2r m) (V3r m) (V3_out m) (V3_ne m)).pre d from .rfl); iexact Hpre
  isplitl [Hlev]; · iexact Hlev
  iexact Hg

/-- @main on device `d`'s TensorCore. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, wp_bind, show (unscopedBufs d (fun b => m ((SparseCore.T d).loc b)) : sProp 𝕄) = held (d : Thread nD τ) ucRefs (V0 m d) from unscopedBufs_held d (V0 m d),
    StableHlo.held_sub_split (d : Thread nD τ) scRefs_sub]
  iintro ⟨#Hctx, Hst, ⟨Hb, ⟨Hsc, Hrest⟩, Hts, -⟩, HG⟩
  iapply ((K (F := F)).wp_run (D (F := F)) 𝒱 (EH := EH) (P := P m) κ d 0) $$ [Hst Hb Hsc Hrest Hts HG]
  isplitr; · iexact Hctx
  isplitl [Hst]; · iexact Hst
  isplitl [Hsc]; · iapply (give m d); iexact Hsc
  iintro ⟨Hst, Hdn⟩
  ihave Hsc := (take m d) $$ Hdn
  ihave Hrest := (Entails.of_eq (rest_eq m d)) $$ Hrest
  ihave Hall := (Entails.of_eq (StableHlo.held_sub_split (d : Thread nD τ) scRefs_sub (V1 m d)).symm) $$ [Hsc Hrest]
  · isplitl [Hsc] <;> iassumption
  iapply (StableHlo.wp_seq (defs := (K (F := F)).defs (D (F := F))) (𝒱 := 𝒱) (bd := none) (E := Set.univ) d ucRefs _ hostOps hostOps_sub hostOps_fresh (V1 m d)) $$ [Hb Hall]
  · isplitl [Hb] <;> iassumption
  iintro ⟨Hb, Hall⟩
  unfold SparseCore.Cfg.tcSt
  icases Hst with ⟨⟨%W, %hW, HO⟩, Hst⟩
  iapply (tc_call m d)
  isplitl [Hst Hts]
  · iintro ⟨Hb, HF, ⟨%W', %hW', HO⟩⟩
    isplitl [HO Hst]
    · isplitl [HO]
      · iexists W'
        isplitr; · ipureintro; exact hW'
        rw [(K (F := F)).Otc_end d (le_refl 1)]
        iexact HO
      iexact Hst
    isplitl [HF]; · iexact HF
    isplitl [Hb] <;> iassumption
  isplitl [Hb]; · iexact Hb
  isplitl [Hall HO]
  · isplitl [Hall]
    · iapply (Entails.of_eq (unscopedBufs_held d (V2 m d)).symm); iexact Hall
    iexists W
    isplitr; · ipureintro; exact hW
    iapply (Entails.of_eq (congrArg (fun O => (owes (d : Thread nD τ) O W : sProp 𝕄)) ((K (F := F)).Otc_end d (le_refl 1))))
    iexact HO
  isplitr; · iapply (SparseCore.Cfg.ctx_levAts (K := K (F := F)) κ); iexact Hctx
  iexact HG

/-! ## The end of the run -/

/-- Every unscoped TensorCore buffer ends at the last valuation. -/
def fq (d : Dev nD) (s' : Phys nD τ sig (Elt F)) : Prop :=
  ∀ b : Ref sig .tc, b ∈ (Finset.univ.filter fun b : Ref sig .tc => ¬ b.isScoped) → s'.mem.mem ((d : Thread nD τ).loc b) = V3r m d b

theorem hfin (d : Dev nD) (s' : Phys nD τ sig (Elt F)) : iprop(FIN m d ∗ SI s') ⊢ (⌜fq m d s'⌝ : sProp 𝕄) := by
  unfold fq
  refine Entails.trans (forall_intro fun b => ?_) pure_forall.2
  refine Entails.trans (forall_intro fun hb => ?_) pure_forall.2
  unfold FIN unscopedBufs
  rw [SparseCore.bigSep_erase' hb]
  iintro ⟨⟨Hb, -⟩, HSI⟩
  ihave H := (SI_pointsTo_agree (st := s') (ℓ := (d : Thread nD τ).loc b) (I := Finset.univ) (q := fullShare) (f := V3r m d b)) $$ [HSI Hb]
  · isplitl [HSI] <;> iassumption
  icases H with %h
  ipureintro
  exact funext fun (i : Idx ((d : Thread nD τ).loc b)) => h i (Finset.mem_univ i)

/-- What the run ends in: the unscoped TensorCore buffers at the last valuation, every semaphore at zero. -/
def QC : PUnit × MemSt nD τ sig (Elt F) → Prop := fun r =>
  (∀ (d : Dev nD) (b : Ref sig .tc), b ∈ (Finset.univ.filter fun b : Ref sig .tc => ¬ b.isScoped) → r.2.mem ((d : Thread nD τ).loc b) = V3r m d b)
    ∧ r.2.sem = fun _ => 0

/-- The program's run from any launch memory whose ids are rows of the tables. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (G (F := F)) (FIN m) (u₀ (F := F)) (sep_elim_left.trans (hu₀ m)) (hmain m ρ) (fq m) (hfin m) (QC m) (fun _ h hz => ⟨h, hz⟩)

/-- A buffer neither call nor any host operation writes ends as launched. -/
theorem V3_arg (d : Dev nD) (b : Ref sig .tc) (hb : b ∈ ({main_arg0, main_arg1, main_arg2, main_arg3, main_arg4, main_arg5, main_arg6,
    main_arg7, main_arg8, main_arg9, main_arg10, main_arg11, main_arg12, main_arg13} : Finset (Ref sig .tc))) :
    V3r m d b = m ((d : Thread nD τ).loc b) := by
  rw [V3_ne m d b (by rintro rfl; revert hb; decide)]
  refine (StableHlo.after_of_forall_not_mem hostOps (V1 m d) (not_written b (by revert b; decide))).trans (V1_ne m d _ ?_ ?_ ?_ ?_)
  all_goals (intro e; have e' := Proc.devRef_injective _ e; subst e'; revert hb; decide)

/-- The whole run, read at the arguments and the result. -/
theorem run_args [∀ e, Nonempty (Elt F e)] (hpre : PreOK m) :
    θ_run (Cert.KernelIdeal.defs (F := F)) (Cert.KernelIdeal.threads (F := F)) ⟨m, fun _ => 0, ρ⟩ (fun r =>
      (∀ d : Dev nD, r.2.mem ((d : Thread nD τ).loc main_v13) = scored (V2r m) d
        ∧ ∀ b : Ref sig .tc, b ∈ ({main_arg0, main_arg1, main_arg2, main_arg3, main_arg4, main_arg5, main_arg6,
            main_arg7, main_arg8, main_arg9, main_arg10, main_arg11, main_arg12, main_arg13} : Finset (Ref sig .tc)) →
          r.2.mem ((d : Thread nD τ).loc b) = m ((d : Thread nD τ).loc b)) ∧ r.2.sem = fun _ => 0) :=
  (θ_run (Cert.KernelIdeal.defs (F := F)) _ _).mono (fun _ h => ⟨fun d => ⟨(h.1 d main_v13 (by decide)).trans (V3_out m d),
    fun b hb => (h.1 d b (by revert b; decide)).trans (V3_arg m d b hb)⟩, h.2⟩) (run_main m ρ hpre)

end Cert.Proof.Ideal

end
-- ==== Proof.Frames.lean ====
/-
  The frames: each program runs to the end, leaves its arguments as they were and every semaphore at zero.
-/
module

public import proofs.«01_k».proof.Defs
public import proofs.«01_k».proof.Proof.Ids
public import proofs.«01_k».proof.Proof.Ideal.Main
public import proofs.«01_k».proof.Proof.Bits.Main
public import proofs.«01_k».proof.Proof.Gen.Kernel
public import proofs.«01_k».proof.Proof.Gen.KernelIdeal
public import proofs.«01_k».proof.Proof.Gen.ReferenceIdeal
public import proofs.«01_k».proof.Proof.Gen.ReferenceIdeal.Run

@[expose] public section

noncomputable section

namespace Cert.Proof

open Idealize.ShloMosaic Idealize.SL.Sem

attribute [local instance] Cert.Kernel.Gen.facts Cert.KernelIdeal.Gen.facts Cert.ReferenceIdeal.Gen.facts Cert.Pre_ids_in_tables.Gen.facts

/-- The precondition makes every id of the launch memory a row of the tables. -/
theorem preOK_bits (m : (ℓ : Loc Cert.Kernel.nD Cert.Kernel.τ Cert.Kernel.sig) → Buf (Elt Bits) ℓ) (h : Cert.Pre_Kernel m) :
    Cert.Proof.Bits.PreOK m := fun d x =>
  have r := Ids.range (F := Bits) _ _ _ _ _ _ _ _ _ _ _ _ _ _ (h d) x
  ⟨r.1.trans (by decide), r.2.trans (by decide)⟩

/-- The precondition makes every id of the launch memory a row of the tables. -/
theorem preOK_ideal (m : (ℓ : Loc Cert.KernelIdeal.nD Cert.KernelIdeal.τ Cert.KernelIdeal.sig) → Buf (Elt Ideal) ℓ) (h : Cert.Pre_KernelIdeal m) :
    Cert.Proof.Ideal.PreOK m := fun d x =>
  have r := Ids.range (F := Ideal) _ _ _ _ _ _ _ _ _ _ _ _ _ _ (h d) x
  ⟨r.1.trans (by decide), r.2.trans (by decide)⟩

/-- `Kernel` runs, its arguments end unchanged, every semaphore ends at zero. -/
theorem frame_bits : Cert.quiescent_Kernel := fun m ρ hp =>
  (θ_run Cert.Kernel.defs _ _).mono (fun r h => ⟨fun c => ⟨(h.1 c).2 Cert.Kernel.main_arg0 (by decide),
      (h.1 c).2 Cert.Kernel.main_arg1 (by decide),
      (h.1 c).2 Cert.Kernel.main_arg2 (by decide),
      (h.1 c).2 Cert.Kernel.main_arg3 (by decide),
      (h.1 c).2 Cert.Kernel.main_arg4 (by decide),
      (h.1 c).2 Cert.Kernel.main_arg5 (by decide),
      (h.1 c).2 Cert.Kernel.main_arg6 (by decide),
      (h.1 c).2 Cert.Kernel.main_arg7 (by decide),
      (h.1 c).2 Cert.Kernel.main_arg8 (by decide),
      (h.1 c).2 Cert.Kernel.main_arg9 (by decide),
      (h.1 c).2 Cert.Kernel.main_arg10 (by decide),
      (h.1 c).2 Cert.Kernel.main_arg11 (by decide),
      (h.1 c).2 Cert.Kernel.main_arg12 (by decide),
      (h.1 c).2 Cert.Kernel.main_arg13 (by decide)⟩, h.2⟩)
    (Cert.Proof.Bits.run_args m ρ (preOK_bits m hp))

/-- `KernelIdeal` runs, its arguments end unchanged, every semaphore ends at zero. -/
theorem frame_ideal : Cert.quiescent_KernelIdeal := fun m ρ hp =>
  (θ_run Cert.KernelIdeal.defs _ _).mono (fun r h => ⟨fun c => ⟨(h.1 c).2 Cert.KernelIdeal.main_arg0 (by decide),
      (h.1 c).2 Cert.KernelIdeal.main_arg1 (by decide),
      (h.1 c).2 Cert.KernelIdeal.main_arg2 (by decide),
      (h.1 c).2 Cert.KernelIdeal.main_arg3 (by decide),
      (h.1 c).2 Cert.KernelIdeal.main_arg4 (by decide),
      (h.1 c).2 Cert.KernelIdeal.main_arg5 (by decide),
      (h.1 c).2 Cert.KernelIdeal.main_arg6 (by decide),
      (h.1 c).2 Cert.KernelIdeal.main_arg7 (by decide),
      (h.1 c).2 Cert.KernelIdeal.main_arg8 (by decide),
      (h.1 c).2 Cert.KernelIdeal.main_arg9 (by decide),
      (h.1 c).2 Cert.KernelIdeal.main_arg10 (by decide),
      (h.1 c).2 Cert.KernelIdeal.main_arg11 (by decide),
      (h.1 c).2 Cert.KernelIdeal.main_arg12 (by decide),
      (h.1 c).2 Cert.KernelIdeal.main_arg13 (by decide)⟩, h.2⟩)
    (Cert.Proof.Ideal.run_args m ρ (preOK_ideal m hp))

/-- The reference runs, its arguments end unchanged; it has no semaphore. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Value.Score.lean ====
/-
  One sample's score over the extended reals, from its four embedding rows and the weights, with the two halves of the
  first layer's and of the last product's sums kept apart.
-/
module

public import Idealize.ShloMosaic.Lib.Pointwise

@[expose] public section

noncomputable section

namespace Cert.Proof.Value

open Idealize.ShloMosaic

/-- A dense layer and the positive part: unit `j` is `max (Σᵢ xᵢ Wᵢⱼ + bⱼ) 0`. -/
def layer {n k : ℕ} (x : Fin n → EReal) (W : Fin n → Fin k → EReal) (b : Fin k → EReal) : Fin k → EReal :=
  fun j => max ((∑ i, x i * W i j) + b j) 0

/-- The first dense layer, whose input is a user's row and an item's row side by side, the weights' rows in the same two
    parts. -/
def layer2 {n n' k : ℕ} (x : Fin n → EReal) (y : Fin n' → EReal) (W : Fin n → Fin k → EReal) (W' : Fin n' → Fin k → EReal)
    (b : Fin k → EReal) : Fin k → EReal :=
  fun j => max (((∑ i, x i * W i j) + ∑ i, y i * W' i j) + b j) 0

/-- The score: the logistic function of the rows' products and the tower's output, weighed, and the bias. -/
def score {n k : ℕ} (u i : Fin n → EReal) (h : Fin k → EReal) (p : Fin n → EReal) (q : Fin k → EReal) (b : EReal) : EReal :=
  Ideal.logistic (((∑ a, u a * i a * p a) + ∑ a, h a * q a) + b)

/-- The table row an id names. -/
def rowOf (w : BitVec 32) : Fin 100001 := ⟨w.toNat % 100001, Nat.mod_lt _ (by norm_num)⟩

/-- Each sample's score, from the two lists of ids, the four tables and the weights. -/
def scores (u i : IVec ⟨1, ![16384]⟩ 32) (gu gi tu ti : FVec Ideal ⟨2, ![100001, 128]⟩ .f32)
    (W₁ : FVec Ideal ⟨2, ![256, 64]⟩ .f32) (b₁ : FVec Ideal ⟨1, ![64]⟩ .f32) (W₂ : FVec Ideal ⟨2, ![64, 32]⟩ .f32)
    (b₂ : FVec Ideal ⟨1, ![32]⟩ .f32) (W₃ : FVec Ideal ⟨2, ![32, 16]⟩ .f32) (b₃ : FVec Ideal ⟨1, ![16]⟩ .f32)
    (W₄ : FVec Ideal ⟨2, ![144, 1]⟩ .f32) (b₄ : FVec Ideal ⟨1, ![1]⟩ .f32) (r : Fin 16384) : EReal :=
  score (fun k => gu (ix2 (rowOf (u (ix1 r))) k)) (fun k => gi (ix2 (rowOf (i (ix1 r))) k))
    (layer (layer (layer2 (fun k => tu (ix2 (rowOf (u (ix1 r))) k)) (fun k => ti (ix2 (rowOf (i (ix1 r))) k))
      (fun k l => W₁ (ix2 ⟨k.val, by omega⟩ l)) (fun k l => W₁ (ix2 ⟨128 + k.val, by omega⟩ l)) (fun l => b₁ (ix1 l)))
      (fun k l => W₂ (ix2 k l)) (fun l => b₂ (ix1 l))) (fun k l => W₃ (ix2 k l)) (fun l => b₃ (ix1 l)))
    (fun k => W₄ (ix2 ⟨k.val, by omega⟩ 0)) (fun k => W₄ (ix2 ⟨128 + k.val, by omega⟩ 0)) (b₄ (ix1 0))

end Cert.Proof.Value

end
-- ==== Proof.Value.Block.lean ====
/-
  What the TensorCore call computes of one block of samples, over the extended reals: each sample's score.
-/
module

public import proofs.«01_k».proof.Proof.Ideal.Region
public import proofs.«01_k».proof.Proof.Value.Score
public import Idealize.ShloMosaic.Lib.Pointwise

@[expose] public section

noncomputable section

namespace Cert.Proof.Value

open Cert.KernelIdeal Cert.KernelIdeal.Gen Cert.Proof.Ideal
open Idealize.ShloMosaic

/-- The tower's output at sample `r` of a block. -/
theorem tower_apply (X2 X3 : FVec Ideal S2048x128 .f32) (X4 X5 : FVec Ideal S128x64 .f32) (X6 : FVec Ideal S1x64 .f32)
    (X7 : FVec Ideal S64x32 .f32) (X8 : FVec Ideal S1x32 .f32) (X9 : FVec Ideal S32x16 .f32) (X10 : FVec Ideal S1x16 .f32)
    (r : Fin 2048) (j : Fin 16) :
    k1_pay2 (F := Ideal) X2 X4 X3 X5 X6 X7 X8 X9 X10 (ix2 r j)
      = layer (layer (layer2 (fun k => X2 (ix2 r k)) (fun k => X3 (ix2 r k)) (fun k l => X4 (ix2 k l)) (fun k l => X5 (ix2 k l))
          (fun l => X6 (ix2 0 l))) (fun k l => X7 (ix2 k l)) (fun l => X8 (ix2 0 l))) (fun k l => X9 (ix2 k l))
          (fun l => X10 (ix2 0 l)) j := by
  pointwise [k1_pay2, layer, layer2]

/-- The block's result at sample `r`. -/
theorem tcBlock_apply (X0 X1 X2 X3 : FVec Ideal S2048x128 .f32) (X4 X5 : FVec Ideal S128x64 .f32) (X6 : FVec Ideal S1x64 .f32)
    (X7 : FVec Ideal S64x32 .f32) (X8 : FVec Ideal S1x32 .f32) (X9 : FVec Ideal S32x16 .f32) (X10 : FVec Ideal S1x16 .f32)
    (X11 : FVec Ideal S1x128 .f32) (X12 : FVec Ideal S1x16 .f32) (X13 : FVec Ideal S1x1 .f32) (r : Fin 2048) :
    tcBlock (F := Ideal) X0 X1 X2 X3 X4 X5 X6 X7 X8 X9 X10 X11 X12 X13 (ix1 r)
      = score (fun k => X0 (ix2 r k)) (fun k => X1 (ix2 r k))
          (layer (layer (layer2 (fun k => X2 (ix2 r k)) (fun k => X3 (ix2 r k)) (fun k l => X4 (ix2 k l)) (fun k l => X5 (ix2 k l))
            (fun l => X6 (ix2 0 l))) (fun k l => X7 (ix2 k l)) (fun l => X8 (ix2 0 l))) (fun k l => X9 (ix2 k l))
            (fun l => X10 (ix2 0 l)))
          (fun k => X11 (ix2 0 k)) (fun k => X12 (ix2 0 k)) (X13 (ix2 0 0)) := by
  unfold tcBlock score
  simp only [← tower_apply]
  generalize k1_pay2 (F := Ideal) X2 X4 X3 X5 X6 X7 X8 X9 X10 = h
  pointwise [k1_pay1]

end Cert.Proof.Value

end
-- ==== Proof.Value.Arr.lean ====
/-
  The TensorCore call's result array, over the extended reals: each sample's score, from the arrays the call reads.
-/
module

public import proofs.«01_k».proof.Proof.Ideal.Seg
public import proofs.«01_k».proof.Proof.Value.Block
public import Idealize.ShloMosaic.Lib.Pipeline.ValueKit

@[expose] public section

noncomputable section

namespace Cert.Proof.Value

open Cert.KernelIdeal Cert.KernelIdeal.Gen Cert.Proof.Ideal
open Idealize.ShloMosaic Idealize.ShloMosaic.Pipeline

variable (V : (d : Dev nD) → (b : Ref sig .tc) → Buf (Elt Ideal) ((d.tc : Thread nD τ).loc b))

/-! ## The windows' block numbers -/

/-- A window's block number at point `t`. -/
theorem e0 : ∀ t : Fin cfg1.N, win1_0.index t = ![t.val, 0] := (by decide +kernel : ∀ t : Fin grid1.N, _)
/-- A window's block number at point `t`. -/
theorem e1 : ∀ t : Fin cfg1.N, win1_1.index t = ![t.val, 0] := (by decide +kernel : ∀ t : Fin grid1.N, _)
/-- A window's block number at point `t`. -/
theorem e2 : ∀ t : Fin cfg1.N, win1_2.index t = ![t.val, 0] := (by decide +kernel : ∀ t : Fin grid1.N, _)
/-- A window's block number at point `t`. -/
theorem e3 : ∀ t : Fin cfg1.N, win1_3.index t = ![t.val, 0] := (by decide +kernel : ∀ t : Fin grid1.N, _)
/-- A window's block number at point `t`. -/
theorem e4 : ∀ t : Fin cfg1.N, win1_4.index t = ![0, 0] := (by decide +kernel : ∀ t : Fin grid1.N, _)
/-- A window's block number at point `t`. -/
theorem e5 : ∀ t : Fin cfg1.N, win1_5.index t = ![0, 0] := (by decide +kernel : ∀ t : Fin grid1.N, _)
/-- A window's block number at point `t`. -/
theorem e6 : ∀ t : Fin cfg1.N, win1_6.index t = ![0, 0] := (by decide +kernel : ∀ t : Fin grid1.N, _)
/-- A window's block number at point `t`. -/
theorem e7 : ∀ t : Fin cfg1.N, win1_7.index t = ![0, 0] := (by decide +kernel : ∀ t : Fin grid1.N, _)
/-- A window's block number at point `t`. -/
theorem e8 : ∀ t : Fin cfg1.N, win1_8.index t = ![0, 0] := (by decide +kernel : ∀ t : Fin grid1.N, _)
/-- A window's block number at point `t`. -/
theorem e9 : ∀ t : Fin cfg1.N, win1_9.index t = ![0, 0] := (by decide +kernel : ∀ t : Fin grid1.N, _)
/-- A window's block number at point `t`. -/
theorem e10 : ∀ t : Fin cfg1.N, win1_10.index t = ![0, 0] := (by decide +kernel : ∀ t : Fin grid1.N, _)
/-- A window's block number at point `t`. -/
theorem e11 : ∀ t : Fin cfg1.N, win1_11.index t = ![0, 0] := (by decide +kernel : ∀ t : Fin grid1.N, _)
/-- A window's block number at point `t`. -/
theorem e12 : ∀ t : Fin cfg1.N, win1_12.index t = ![0, 0] := (by decide +kernel : ∀ t : Fin grid1.N, _)
/-- A window's block number at point `t`. -/
theorem e13 : ∀ t : Fin cfg1.N, win1_13.index t = ![0, 0] := (by decide +kernel : ∀ t : Fin grid1.N, _)
/-- A window's block number at point `t`. -/
theorem e14 : ∀ t : Fin cfg1.N, win1_14.index t = ![t.val] := (by decide +kernel : ∀ t : Fin grid1.N, _)

/-- Sample `r` of block `t`. -/
def smp (t : Fin cfg1.N) (r : Fin 2048) : Fin 16384 := ⟨t.val * 2048 + r.val, by have : t.val < 8 := t.isLt; omega⟩

/-! ## The blocks the body reads: of the rows, block `t`'s samples; of the weights, the whole arrays -/

/-- A rows' block, at a sample and a position. -/
theorem blk0 (c : Dev nD) (t : Fin cfg1.N) (r : Fin 2048) (k : Fin 128) :
    (blkV V c 0 t : FVec Ideal S2048x128 .f32) (ix2 r k) = (V c main_v0_0 : FVec Ideal S16384x128 .f32) (ix2 (smp t r) k) := by
  blk_simp [blkV]
  refine congrArg (V c main_v0_0) ?_
  blk_ext [e0, smp]
/-- A rows' block, at a sample and a position. -/
theorem blk1 (c : Dev nD) (t : Fin cfg1.N) (r : Fin 2048) (k : Fin 128) :
    (blkV V c 1 t : FVec Ideal S2048x128 .f32) (ix2 r k) = (V c main_v0_1 : FVec Ideal S16384x128 .f32) (ix2 (smp t r) k) := by
  blk_simp [blkV]
  refine congrArg (V c main_v0_1) ?_
  blk_ext [e1, smp]
/-- A rows' block, at a sample and a position. -/
theorem blk2 (c : Dev nD) (t : Fin cfg1.N) (r : Fin 2048) (k : Fin 128) :
    (blkV V c 2 t : FVec Ideal S2048x128 .f32) (ix2 r k) = (V c main_v0_2 : FVec Ideal S16384x128 .f32) (ix2 (smp t r) k) := by
  blk_simp [blkV]
  refine congrArg (V c main_v0_2) ?_
  blk_ext [e2, smp]
/-- A rows' block, at a sample and a position. -/
theorem blk3 (c : Dev nD) (t : Fin cfg1.N) (r : Fin 2048) (k : Fin 128) :
    (blkV V c 3 t : FVec Ideal S2048x128 .f32) (ix2 r k) = (V c main_v0_3 : FVec Ideal S16384x128 .f32) (ix2 (smp t r) k) := by
  blk_simp [blkV]
  refine congrArg (V c main_v0_3) ?_
  blk_ext [e3, smp]
/-- A weights' block, at a row and a column. -/
theorem blk4 (c : Dev nD) (t : Fin cfg1.N) (k : Fin 128) (l : Fin 64) :
    (blkV V c 4 t : FVec Ideal S128x64 .f32) (ix2 k l) = (V c main_v1 : FVec Ideal S128x64 .f32) (ix2 k l) := by
  blk_simp [blkV]
  refine congrArg (V c main_v1) ?_
  blk_ext [e4]
/-- A weights' block, at a row and a column. -/
theorem blk5 (c : Dev nD) (t : Fin cfg1.N) (k : Fin 128) (l : Fin 64) :
    (blkV V c 5 t : FVec Ideal S128x64 .f32) (ix2 k l) = (V c main_v2 : FVec Ideal S128x64 .f32) (ix2 k l) := by
  blk_simp [blkV]
  refine congrArg (V c main_v2) ?_
  blk_ext [e5]
/-- A weights' block, at a row and a column. -/
theorem blk6 (c : Dev nD) (t : Fin cfg1.N) (k : Fin 1) (l : Fin 64) :
    (blkV V c 6 t : FVec Ideal S1x64 .f32) (ix2 k l) = (V c main_v9 : FVec Ideal S1x64 .f32) (ix2 k l) := by
  blk_simp [blkV]
  refine congrArg (V c main_v9) ?_
  blk_ext [e6]
/-- A weights' block, at a row and a column. -/
theorem blk7 (c : Dev nD) (t : Fin cfg1.N) (k : Fin 64) (l : Fin 32) :
    (blkV V c 7 t : FVec Ideal S64x32 .f32) (ix2 k l) = (V c main_arg8 : FVec Ideal S64x32 .f32) (ix2 k l) := by
  blk_simp [blkV]
  refine congrArg (V c main_arg8) ?_
  blk_ext [e7]
/-- A weights' block, at a row and a column. -/
theorem blk8 (c : Dev nD) (t : Fin cfg1.N) (k : Fin 1) (l : Fin 32) :
    (blkV V c 8 t : FVec Ideal S1x32 .f32) (ix2 k l) = (V c main_v10 : FVec Ideal S1x32 .f32) (ix2 k l) := by
  blk_simp [blkV]
  refine congrArg (V c main_v10) ?_
  blk_ext [e8]
/-- A weights' block, at a row and a column. -/
theorem blk9 (c : Dev nD) (t : Fin cfg1.N) (k : Fin 32) (l : Fin 16) :
    (blkV V c 9 t : FVec Ideal S32x16 .f32) (ix2 k l) = (V c main_arg10 : FVec Ideal S32x16 .f32) (ix2 k l) := by
  blk_simp [blkV]
  refine congrArg (V c main_arg10) ?_
  blk_ext [e9]
/-- A weights' block, at a row and a column. -/
theorem blk10 (c : Dev nD) (t : Fin cfg1.N) (k : Fin 1) (l : Fin 16) :
    (blkV V c 10 t : FVec Ideal S1x16 .f32) (ix2 k l) = (V c main_v11 : FVec Ideal S1x16 .f32) (ix2 k l) := by
  blk_simp [blkV]
  refine congrArg (V c main_v11) ?_
  blk_ext [e10]
/-- A weights' block, at a row and a column. -/
theorem blk11 (c : Dev nD) (t : Fin cfg1.N) (k : Fin 1) (l : Fin 128) :
    (blkV V c 11 t : FVec Ideal S1x128 .f32) (ix2 k l) = (V c main_v5 : FVec Ideal S1x128 .f32) (ix2 k l) := by
  blk_simp [blkV]
  refine congrArg (V c main_v5) ?_
  blk_ext [e11]
/-- A weights' block, at a row and a column. -/
theorem blk12 (c : Dev nD) (t : Fin cfg1.N) (k : Fin 1) (l : Fin 16) :
    (blkV V c 12 t : FVec Ideal S1x16 .f32) (ix2 k l) = (V c main_v8 : FVec Ideal S1x16 .f32) (ix2 k l) := by
  blk_simp [blkV]
  refine congrArg (V c main_v8) ?_
  blk_ext [e12]
/-- A weights' block, at a row and a column. -/
theorem blk13 (c : Dev nD) (t : Fin cfg1.N) (k : Fin 1) (l : Fin 1) :
    (blkV V c 13 t : FVec Ideal S1x1 .f32) (ix2 k l) = (V c main_v12 : FVec Ideal S1x1 .f32) (ix2 k l) := by
  blk_simp [blkV]
  refine congrArg (V c main_v12) ?_
  blk_ext [e13]

/-- Sample `r`'s score, from the arrays the call reads. -/
def callScore (c : Dev nD) (r : Fin 16384) : EReal :=
  score (fun k => (V c main_v0_0 : FVec Ideal S16384x128 .f32) (ix2 r k)) (fun k => (V c main_v0_1 : FVec Ideal S16384x128 .f32) (ix2 r k))
    (layer (layer (layer2 (fun k => (V c main_v0_2 : FVec Ideal S16384x128 .f32) (ix2 r k)) (fun k => (V c main_v0_3 : FVec Ideal S16384x128 .f32) (ix2 r k))
      (fun k l => (V c main_v1 : FVec Ideal S128x64 .f32) (ix2 k l)) (fun k l => (V c main_v2 : FVec Ideal S128x64 .f32) (ix2 k l)) (fun l => (V c main_v9 : FVec Ideal S1x64 .f32) (ix2 0 l)))
      (fun k l => (V c main_arg8 : FVec Ideal S64x32 .f32) (ix2 k l)) (fun l => (V c main_v10 : FVec Ideal S1x32 .f32) (ix2 0 l)))
      (fun k l => (V c main_arg10 : FVec Ideal S32x16 .f32) (ix2 k l)) (fun l => (V c main_v11 : FVec Ideal S1x16 .f32) (ix2 0 l)))
    (fun k => (V c main_v5 : FVec Ideal S1x128 .f32) (ix2 0 k)) (fun k => (V c main_v8 : FVec Ideal S1x16 .f32) (ix2 0 k)) ((V c main_v12 : FVec Ideal S1x1 .f32) (ix2 0 0))

/-- The result block at point `t`, at sample `r` of the block. -/
theorem out_apply (c : Dev nD) (t : Fin cfg1.N) (r : Fin 2048) :
    (outV V c t : FVec Ideal S2048 .f32) (ix1 r) = callScore V c (smp t r) := by
  unfold outV
  rw [tcBlock_apply]
  simp only [blk0, blk1, blk2, blk3, blk4, blk5, blk6, blk7, blk8, blk9, blk10, blk11, blk12, blk13, callScore]

/-- The call's result array: each sample's score. -/
theorem scored_eq (c : Dev nD) : (scored V c : FVec Ideal S16384 .f32) = fun j => callScore V c (j 0) := by
  refine (dat V c).arrAt_eq_of_covers 14 _ (by decide +kernel) fun t hf y => ?_
  blk_simp
  rw [after14]
  refine (out_apply V c t (y 0)).trans ?_
  refine congrArg (callScore V c) (Fin.ext ?_)
  blk_simp [e14, smp]

end Cert.Proof.Value

end
-- ==== Proof.Value.Kern.lean ====
/-
  The kernel's result over the extended reals: each sample's score, from the arguments.
-/
module

public import proofs.«01_k».proof.Proof.Ideal.Main
public import proofs.«01_k».proof.Proof.Value.Arr

@[expose] public section

noncomputable section

namespace Cert.Proof.Value

open Cert.KernelIdeal Cert.KernelIdeal.Gen Cert.Proof.Ideal
open Idealize.ShloMosaic

variable (m : (ℓ : Loc nD τ sig) → Buf (Elt Ideal) ℓ) (d : Dev nD)

/-- Argument `b` on device `d`. -/
abbrev ar (b : Ref sig .tc) : Buf (Elt Ideal) ((d.tc : Thread nD τ).loc b) := m ((d.tc : Thread nD τ).loc b)

/-- A look-up at a sample and a position. -/
theorem gat_apply (ids : IVec S16384 32) (tab : FVec Ideal S100001x128 .f32) (r : Fin 16384) (k : Fin 128) :
    gat (F := Ideal) ids tab (ix2 r k) = tab (ix2 (rowOf (ids (ix1 r))) k) := by
  refine congrArg tab (funext fun a => ?_)
  match a with
  | 0 =>
    refine Fin.ext (congrArg (fun w : BitVec 32 => w.toNat % 100001) (congrArg ids (funext fun b => ?_)))
    match b with
    | 0 => rfl
  | 1 => rfl

/-! ## What the TensorCore call reads -/

/-- Gathered array 0, at a sample and a position: the table's row the sample's id names. -/
theorem in_v0_0 (r : Fin 16384) (k : Fin 128) : (V2r m d main_v0_0 : FVec Ideal S16384x128 .f32) (ix2 r k)
    = (ar m d main_arg2 : FVec Ideal S100001x128 .f32) (ix2 (rowOf ((ar m d main_arg0 : IVec S16384 32) (ix1 r))) k) :=
  (congrFun ((StableHlo.after_of_forall_not_mem hostOps (V1 m d) (not_written main_v0_0 (by decide))).trans (V1_v0_0 m d)) (ix2 r k)).trans
    (gat_apply _ _ r k)

/-- Gathered array 1, at a sample and a position: the table's row the sample's id names. -/
theorem in_v0_1 (r : Fin 16384) (k : Fin 128) : (V2r m d main_v0_1 : FVec Ideal S16384x128 .f32) (ix2 r k)
    = (ar m d main_arg3 : FVec Ideal S100001x128 .f32) (ix2 (rowOf ((ar m d main_arg1 : IVec S16384 32) (ix1 r))) k) :=
  (congrFun ((StableHlo.after_of_forall_not_mem hostOps (V1 m d) (not_written main_v0_1 (by decide))).trans (V1_v0_1 m d)) (ix2 r k)).trans
    (gat_apply _ _ r k)

/-- Gathered array 2, at a sample and a position: the table's row the sample's id names. -/
theorem in_v0_2 (r : Fin 16384) (k : Fin 128) : (V2r m d main_v0_2 : FVec Ideal S16384x128 .f32) (ix2 r k)
    = (ar m d main_arg4 : FVec Ideal S100001x128 .f32) (ix2 (rowOf ((ar m d main_arg0 : IVec S16384 32) (ix1 r))) k) :=
  (congrFun ((StableHlo.after_of_forall_not_mem hostOps (V1 m d) (not_written main_v0_2 (by decide))).trans (V1_v0_2 m d)) (ix2 r k)).trans
    (gat_apply _ _ r k)

/-- Gathered array 3, at a sample and a position: the table's row the sample's id names. -/
theorem in_v0_3 (r : Fin 16384) (k : Fin 128) : (V2r m d main_v0_3 : FVec Ideal S16384x128 .f32) (ix2 r k)
    = (ar m d main_arg5 : FVec Ideal S100001x128 .f32) (ix2 (rowOf ((ar m d main_arg1 : IVec S16384 32) (ix1 r))) k) :=
  (congrFun ((StableHlo.after_of_forall_not_mem hostOps (V1 m d) (not_written main_v0_3 (by decide))).trans (V1_v0_3 m d)) (ix2 r k)).trans
    (gat_apply _ _ r k)

/-- The first layer's weights for the user's row. -/
theorem in_v1 (k : Fin 128) (l : Fin 64) : (V2r m d main_v1 : FVec Ideal S128x64 .f32) (ix2 k l)
    = (ar m d main_arg6 : FVec Ideal S256x64 .f32) (ix2 ⟨k.val, by omega⟩ l) := by
  unfold V2r V2 hostOps
  after_results_simp
  rw [V1_ne m d _ (by decide) (by decide) (by decide) (by decide)]
  pointwise

/-- The first layer's weights for the item's row. -/
theorem in_v2 (k : Fin 128) (l : Fin 64) : (V2r m d main_v2 : FVec Ideal S128x64 .f32) (ix2 k l)
    = (ar m d main_arg6 : FVec Ideal S256x64 .f32) (ix2 ⟨128 + k.val, by omega⟩ l) := by
  unfold V2r V2 hostOps
  after_results_simp
  rw [V1_ne m d _ (by decide) (by decide) (by decide) (by decide)]
  pointwise

/-- The last weights for the rows' products. -/
theorem in_v5 (k : Fin 128) : (V2r m d main_v5 : FVec Ideal S1x128 .f32) (ix2 0 k)
    = (ar m d main_arg12 : FVec Ideal S144x1 .f32) (ix2 ⟨k.val, by omega⟩ 0) := by
  unfold V2r V2 hostOps
  after_results_simp
  rw [V1_ne m d _ (by decide) (by decide) (by decide) (by decide)]
  pointwise

/-- The last weights for the tower's output. -/
theorem in_v8 (k : Fin 16) : (V2r m d main_v8 : FVec Ideal S1x16 .f32) (ix2 0 k)
    = (ar m d main_arg12 : FVec Ideal S144x1 .f32) (ix2 ⟨128 + k.val, by omega⟩ 0) := by
  unfold V2r V2 hostOps
  after_results_simp
  rw [V1_ne m d _ (by decide) (by decide) (by decide) (by decide)]
  pointwise

/-- The first bias. -/
theorem in_v9 (k : Fin 64) : (V2r m d main_v9 : FVec Ideal S1x64 .f32) (ix2 0 k)
    = (ar m d main_arg7 : FVec Ideal S64 .f32) (ix1 k) := by
  unfold V2r V2 hostOps
  after_results_simp
  rw [V1_ne m d _ (by decide) (by decide) (by decide) (by decide)]
  pointwise

/-- The second bias. -/
theorem in_v10 (k : Fin 32) : (V2r m d main_v10 : FVec Ideal S1x32 .f32) (ix2 0 k)
    = (ar m d main_arg9 : FVec Ideal S32 .f32) (ix1 k) := by
  unfold V2r V2 hostOps
  after_results_simp
  rw [V1_ne m d _ (by decide) (by decide) (by decide) (by decide)]
  pointwise

/-- The third bias. -/
theorem in_v11 (k : Fin 16) : (V2r m d main_v11 : FVec Ideal S1x16 .f32) (ix2 0 k)
    = (ar m d main_arg11 : FVec Ideal S16 .f32) (ix1 k) := by
  unfold V2r V2 hostOps
  after_results_simp
  rw [V1_ne m d _ (by decide) (by decide) (by decide) (by decide)]
  pointwise

/-- The last bias. -/
theorem in_v12  : (V2r m d main_v12 : FVec Ideal S1x1 .f32) (ix2 0 0)
    = (ar m d main_arg13 : FVec Ideal S1 .f32) (ix1 0) := by
  unfold V2r V2 hostOps
  after_results_simp
  rw [V1_ne m d _ (by decide) (by decide) (by decide) (by decide)]
  pointwise

/-- The second weights. -/
theorem in_arg8 : V2r m d main_arg8 = ar m d main_arg8 :=
  (StableHlo.after_of_forall_not_mem hostOps (V1 m d) (not_written main_arg8 (by decide))).trans
    (V1_ne m d _ (by decide) (by decide) (by decide) (by decide))

/-- The third weights. -/
theorem in_arg10 : V2r m d main_arg10 = ar m d main_arg10 :=
  (StableHlo.after_of_forall_not_mem hostOps (V1 m d) (not_written main_arg10 (by decide))).trans
    (V1_ne m d _ (by decide) (by decide) (by decide) (by decide))

/-- The call's scores, where the arrays it reads are the look-ups and the cut and reshaped weights. -/
theorem callScore_eq (V : (c : Dev nD) → (b : Ref sig .tc) → Buf (Elt Ideal) ((c.tc : Thread nD τ).loc b)) (c : Dev nD)
    (a0 a1 : IVec S16384 32) (a2 : FVec Ideal S100001x128 .f32) (a3 : FVec Ideal S100001x128 .f32) (a4 : FVec Ideal S100001x128 .f32) (a5 : FVec Ideal S100001x128 .f32) (a6 : FVec Ideal S256x64 .f32) (a7 : FVec Ideal S64 .f32) (a8 : FVec Ideal S64x32 .f32) (a9 : FVec Ideal S32 .f32) (a10 : FVec Ideal S32x16 .f32) (a11 : FVec Ideal S16 .f32) (a12 : FVec Ideal S144x1 .f32) (a13 : FVec Ideal S1 .f32)
    (h_v0_0 : ∀ (r : Fin 16384) (k : Fin 128), (V c main_v0_0 : FVec Ideal S16384x128 .f32) (ix2 r k)
    = a2 (ix2 (rowOf (a0 (ix1 r))) k))
    (h_v0_1 : ∀ (r : Fin 16384) (k : Fin 128), (V c main_v0_1 : FVec Ideal S16384x128 .f32) (ix2 r k)
    = a3 (ix2 (rowOf (a1 (ix1 r))) k))
    (h_v0_2 : ∀ (r : Fin 16384) (k : Fin 128), (V c main_v0_2 : FVec Ideal S16384x128 .f32) (ix2 r k)
    = a4 (ix2 (rowOf (a0 (ix1 r))) k))
    (h_v0_3 : ∀ (r : Fin 16384) (k : Fin 128), (V c main_v0_3 : FVec Ideal S16384x128 .f32) (ix2 r k)
    = a5 (ix2 (rowOf (a1 (ix1 r))) k))
    (h_v1 : ∀ (k : Fin 128) (l : Fin 64), (V c main_v1 : FVec Ideal S128x64 .f32) (ix2 k l)
    = a6 (ix2 ⟨k.val, by omega⟩ l))
    (h_v2 : ∀ (k : Fin 128) (l : Fin 64), (V c main_v2 : FVec Ideal S128x64 .f32) (ix2 k l)
    = a6 (ix2 ⟨128 + k.val, by omega⟩ l))
    (h_v5 : ∀ (k : Fin 128), (V c main_v5 : FVec Ideal S1x128 .f32) (ix2 0 k)
    = a12 (ix2 ⟨k.val, by omega⟩ 0))
    (h_v8 : ∀ (k : Fin 16), (V c main_v8 : FVec Ideal S1x16 .f32) (ix2 0 k)
    = a12 (ix2 ⟨128 + k.val, by omega⟩ 0))
    (h_v9 : ∀ (k : Fin 64), (V c main_v9 : FVec Ideal S1x64 .f32) (ix2 0 k)
    = a7 (ix1 k))
    (h_v10 : ∀ (k : Fin 32), (V c main_v10 : FVec Ideal S1x32 .f32) (ix2 0 k)
    = a9 (ix1 k))
    (h_v11 : ∀ (k : Fin 16), (V c main_v11 : FVec Ideal S1x16 .f32) (ix2 0 k)
    = a11 (ix1 k))
    (h_v12 : (V c main_v12 : FVec Ideal S1x1 .f32) (ix2 0 0)
    = a13 (ix1 0))
    (h_arg8 : V c main_arg8 = a8)
    (h_arg10 : V c main_arg10 = a10)
    (r : Fin 16384) : callScore V c r = scores a0 a1 a2 a3 a4 a5 a6 a7 a8 a9 a10 a11 a12 a13 r := by
  simp only [callScore, scores, h_v0_0, h_v0_1, h_v0_2, h_v0_3, h_v1, h_v2, h_v5, h_v8, h_v9, h_v10, h_v11, h_v12, h_arg8, h_arg10]

/-- The kernel's result: each sample's score, from the arguments. -/
theorem kern_scores (r : Fin 16384) : callScore (V2r m) d r
    = scores (ar m d main_arg0) (ar m d main_arg1) (ar m d main_arg2) (ar m d main_arg3) (ar m d main_arg4) (ar m d main_arg5)
        (ar m d main_arg6) (ar m d main_arg7) (ar m d main_arg8) (ar m d main_arg9) (ar m d main_arg10) (ar m d main_arg11)
        (ar m d main_arg12) (ar m d main_arg13) r :=
  callScore_eq (V2r m) d _ _ _ _ _ _ _ _ _ _ _ _ _ _ (in_v0_0 m d) (in_v0_1 m d) (in_v0_2 m d) (in_v0_3 m d) (in_v1 m d) (in_v2 m d) (in_v5 m d) (in_v8 m d) (in_v9 m d) (in_v10 m d) (in_v11 m d) (in_v12 m d) (in_arg8 m d) (in_arg10 m d) r

end Cert.Proof.Value

end
-- ==== Proof.Value.Take.lean ====
/-
  The reference's look-up of table rows: for an id in the table, the row it names.
-/
module

public import proofs.«01_k».proof.Proof.Gen.ReferenceIdeal.Run
public import proofs.«01_k».proof.Proof.Value.Score
public import Idealize.ShloMosaic.Lib.Pointwise
public import Idealize.ShloMosaic.Lib.Pointwise.IndexBridge
public import Idealize.ShloMosaic.Lib.ReduceAll
public import Idealize.ShloMosaic.Lib.Routing.Ops

@[expose] public section

noncomputable section

namespace Cert.Proof.Value

open Cert.ReferenceIdeal Cert.ReferenceIdeal.Gen
open Idealize.ShloMosaic

/-- The ids as the look-up reads them, a column; a negative one counts from the table's end. -/
def idCol (ids : IVec S16384 32) : IVec S16384x1 32 :=
  broadcastInDim S16384x1 ![0] bcast_S16384_S16384x1_0 (select (cmpi .slt ids (broadcastInDim S16384 ![] bcast_S_S16384 (constantI S_ 32 0#32))) (addi ids (broadcastInDim S16384 ![] bcast_S_S16384 (constantI S_ 32 100001#32))) ids)

/-- The look-up of the rows `ids` names in `tab`. -/
def take (ids : IVec S16384 32) (tab : FVec Ideal S100001x128 .f32) : FVec Ideal S16384x128 .f32 :=
  select (broadcastInDim S16384x128 ![0] bcast_S16384_S16384x128_0 (Host.reduce IntOp.andi (andi (cmpi .sge (idCol ids) (broadcastInDim S16384x1 ![] bcast_S_S16384x1 (constantI S_ 32 0#32))) (cmpi .sle (idCol ids) (broadcastInDim S16384x1 ![0, 1] bcast_S1x1_S16384x1_0_1 (broadcastInDim S1x1 ![1] bcast_S1_S1x1_1 (constantI S1 32 100000#32))))) (constantI S_ 1 1#1) reducesTo_S16384x1_S16384_d1 h_S_)) (Host.gather gather_S100001x128_S16384x1_S16384x128_1_0_n_n_0_1_1128 tab (idCol ids)) (broadcastInDim S16384x128 ![] bcast_S_S16384x128 (constant S_ .f32 0x7FC00000#32))

/-- A word below `100000` is not negative, and between `0` and `100000` as a signed number. -/
theorem word_signed (x : BitVec 32) (h : x.toNat < 100000) :
    IntOp.cmpi .slt x 0#32 = 0#1 ∧ IntOp.cmpi .sge x 0#32 = 1#1 ∧ IntOp.cmpi .sle x 100000#32 = 1#1 := by
  have hi : x.toInt = x.toNat := by rw [BitVec.toInt_eq_toNat_cond]; split <;> omega
  have h0 : (0#32).toInt = 0 := by decide
  have h1 : (100000#32).toInt = 100000 := by decide
  have hle : x.toNat ≤ 100000 := h.le
  have hlt : ¬ ((x.toNat : ℤ) < 0) := by omega
  refine ⟨?_, ?_, ?_⟩ <;> simp [IntOp.cmpi, BitVec.slt, BitVec.sle, hi, h0, h1, hle, hlt]

/-- The id the look-up reads at sample `r`, where it is in the table. -/
theorem idCol_apply (ids : IVec S16384 32) (r : Fin 16384) (z : Fin 1) (h : (ids (ix1 r)).toNat < 100000) :
    idCol ids (ix2 r z) = ids (ix1 r) := by
  pointwise [idCol]
  rw [(word_signed _ h).1]
  rfl

/-- Ids in the table: the look-up's range test is true of each. -/
theorem take_mask (ids : IVec S16384 32) (h : ∀ x, (ids x).toNat < 100000) (x : S16384.Idx) :
    Host.reduce IntOp.andi (andi (cmpi .sge (idCol ids) (broadcastInDim S16384x1 ![] bcast_S_S16384x1 (constantI S_ 32 0#32))) (cmpi .sle (idCol ids) (broadcastInDim S16384x1 ![0, 1] bcast_S1x1_S16384x1_0_1 (broadcastInDim S1x1 ![1] bcast_S1_S1x1_1 (constantI S1 32 100000#32))))) (constantI S_ 1 1#1) reducesTo_S16384x1_S16384_d1 h_S_ x = 1#1 := by
  refine Host.reduce_andi_one _ _ _ _ x rfl fun j => ?_
  have hj := h (ix1 (j 0))
  have e := idCol_apply ids (j 0) (j 1) hj
  rw [← eq_ix2 j] at e
  show IntOp.andi (IntOp.cmpi .sge (idCol ids j) 0#32) (IntOp.cmpi .sle (idCol ids j) 100000#32) = 1#1
  rw [e, (word_signed _ hj).2.1, (word_signed _ hj).2.2]
  rfl

/-- The look-up at sample `r`, position `k`: position `k` of the row the sample's id names. -/
theorem take_apply (ids : IVec S16384 32) (tab : FVec Ideal S100001x128 .f32) (h : ∀ x, (ids x).toNat < 100000)
    (r : Fin 16384) (k : Fin 128) :
    take ids tab (ix2 r k) = tab (ix2 (rowOf (ids (ix1 r))) k) := by
  have hr := h (ix1 r)
  have hg := Routing.gather_row gather_S100001x128_S16384x1_S16384x128_1_0_n_n_0_1_1128 rfl rfl rfl rfl rfl tab (idCol ids) r k
    (rowOf (ids (ix1 r))) (by
      rw [← ix2_eq_valueIdx, idCol_apply ids r 0 hr]
      apply BitVec.eq_of_toNat_eq
      simp only [BitVec.toNat_ofNat, rowOf]
      omega) (by norm_num)
  simp only [← ix2_eq_valueIdx] at hg
  refine Eq.trans ?_ hg
  have e := take_mask ids h
  unfold take
  generalize Host.reduce IntOp.andi _ _ reducesTo_S16384x1_S16384_d1 h_S_ = mask at e ⊢
  generalize Host.gather gather_S100001x128_S16384x1_S16384x128_1_0_n_n_0_1_1128 tab (idCol ids) = g
  pointwise
  rw [e]
  rfl

end Cert.Proof.Value

end
-- ==== Proof.Value.Ref.lean ====
/-
  The reference's result over the extended reals: each sample's score.
-/
module

public import proofs.«01_k».proof.Proof.Value.Take

@[expose] public section

noncomputable section

namespace Cert.Proof.Value

open Cert.ReferenceIdeal Cert.ReferenceIdeal.Gen
open Idealize.ShloMosaic

/-- The first layer, over the two rows side by side. -/
def ref1 (x y : FVec Ideal S16384x128 .f32) (W : FVec Ideal S256x64 .f32) (b : FVec Ideal S64 .f32) : FVec Ideal S16384x64 .f32 :=
  maximumf (addf (Host.dotGeneral dot_S16384x256_S256x64_S16384x64_1_0_0_1_n_n none (concatenate S16384x256 1 [⟨S16384x128, x⟩, ⟨S16384x128, y⟩] concatenates_S16384x128_S16384x128_S16384x256_d1) W) (broadcastInDim S16384x64 ![0, 1] bcast_S1x64_S16384x64_0_1 (broadcastInDim S1x64 ![1] bcast_S64_S1x64_1 b))) (broadcastInDim S16384x64 ![] bcast_S_S16384x64 (constant S_ .f32 0x00000000#32))

/-- The second layer. -/
def ref2 (h : FVec Ideal S16384x64 .f32) (W : FVec Ideal S64x32 .f32) (b : FVec Ideal S32 .f32) : FVec Ideal S16384x32 .f32 :=
  maximumf (addf (Host.dotGeneral dot_S16384x64_S64x32_S16384x32_1_0_0_1_n_n none h W) (broadcastInDim S16384x32 ![0, 1] bcast_S1x32_S16384x32_0_1 (broadcastInDim S1x32 ![1] bcast_S32_S1x32_1 b))) (broadcastInDim S16384x32 ![] bcast_S_S16384x32 (constant S_ .f32 0x00000000#32))

/-- The third layer. -/
def ref3 (h : FVec Ideal S16384x32 .f32) (W : FVec Ideal S32x16 .f32) (b : FVec Ideal S16 .f32) : FVec Ideal S16384x16 .f32 :=
  maximumf (addf (Host.dotGeneral dot_S16384x32_S32x16_S16384x16_1_0_0_1_n_n none h W) (broadcastInDim S16384x16 ![0, 1] bcast_S1x16_S16384x16_0_1 (broadcastInDim S1x16 ![1] bcast_S16_S1x16_1 b))) (broadcastInDim S16384x16 ![] bcast_S_S16384x16 (constant S_ .f32 0x00000000#32))

/-- The last product, over the rows' products and the tower's output side by side, and the logistic function. -/
def refOut (x y : FVec Ideal S16384x128 .f32) (h : FVec Ideal S16384x16 .f32) (W : FVec Ideal S144x1 .f32) (b : FVec Ideal S1 .f32) :
    FVec Ideal S16384 .f32 :=
  shapeCast _ (Host.divf (broadcastInDim S16384x1 ![] bcast_S_S16384x1 (constant S_ .f32 0x3F800000#32)) (addf (broadcastInDim S16384x1 ![] bcast_S_S16384x1 (constant S_ .f32 0x3F800000#32)) (Host.exp (Host.negf (addf (Host.dotGeneral dot_S16384x144_S144x1_S16384x1_1_0_0_1_n_n none (concatenate S16384x144 1 [⟨S16384x128, (mulf x y)⟩, ⟨S16384x16, h⟩] concatenates_S16384x128_S16384x16_S16384x144_d1) W) (broadcastInDim S16384x1 ![0, 1] bcast_S1x1_S16384x1_0_1 (broadcastInDim S1x1 ![1] bcast_S1_S1x1_1 b))))))) shapeCasts_S16384x1_S16384

/-- The first layer's unit `j` at sample `r`. -/
theorem ref1_apply (x y : FVec Ideal S16384x128 .f32) (W : FVec Ideal S256x64 .f32) (b : FVec Ideal S64 .f32) (r : Fin 16384) (j : Fin 64) :
    ref1 x y W b (ix2 r j) = layer2 (fun k => x (ix2 r k)) (fun k => y (ix2 r k)) (fun k l => W (ix2 ⟨k.val, by omega⟩ l))
      (fun k l => W (ix2 ⟨128 + k.val, by omega⟩ l)) (fun l => b (ix1 l)) j := by
  pointwise [ref1, layer2]

/-- The second layer's unit `j` at sample `r`. -/
theorem ref2_apply (h : FVec Ideal S16384x64 .f32) (W : FVec Ideal S64x32 .f32) (b : FVec Ideal S32 .f32) (r : Fin 16384) (j : Fin 32) :
    ref2 h W b (ix2 r j) = layer (fun k => h (ix2 r k)) (fun k l => W (ix2 k l)) (fun l => b (ix1 l)) j := by
  pointwise [ref2, layer]

/-- The third layer's unit `j` at sample `r`. -/
theorem ref3_apply (h : FVec Ideal S16384x32 .f32) (W : FVec Ideal S32x16 .f32) (b : FVec Ideal S16 .f32) (r : Fin 16384) (j : Fin 16) :
    ref3 h W b (ix2 r j) = layer (fun k => h (ix2 r k)) (fun k l => W (ix2 k l)) (fun l => b (ix1 l)) j := by
  pointwise [ref3, layer]

/-- The result at sample `r`. -/
theorem refOut_apply (x y : FVec Ideal S16384x128 .f32) (h : FVec Ideal S16384x16 .f32) (W : FVec Ideal S144x1 .f32) (b : FVec Ideal S1 .f32)
    (r : Fin 16384) :
    refOut x y h W b (ix1 r) = score (fun k => x (ix2 r k)) (fun k => y (ix2 r k)) (fun k => h (ix2 r k))
      (fun k => W (ix2 ⟨k.val, by omega⟩ 0)) (fun k => W (ix2 ⟨128 + k.val, by omega⟩ 0)) (b (ix1 0)) := by
  pointwise [refOut, score]
  rfl

/-- What the reference's run leaves in its result, as the look-ups and the layers. -/
theorem res_eq (m : (ℓ : Loc nD τ sig) → Buf (Elt Ideal) ℓ) (c : Dev nD) :
    Cert.ReferenceIdeal.Value.res_main_v32 m c
      = refOut (take (m ((c.tc : Thread nD τ).loc main_arg0)) (m ((c.tc : Thread nD τ).loc main_arg2)))
          (take (m ((c.tc : Thread nD τ).loc main_arg1)) (m ((c.tc : Thread nD τ).loc main_arg3)))
          (ref3 (ref2 (ref1 (take (m ((c.tc : Thread nD τ).loc main_arg0)) (m ((c.tc : Thread nD τ).loc main_arg4)))
            (take (m ((c.tc : Thread nD τ).loc main_arg1)) (m ((c.tc : Thread nD τ).loc main_arg5)))
            (m ((c.tc : Thread nD τ).loc main_arg6)) (m ((c.tc : Thread nD τ).loc main_arg7)))
            (m ((c.tc : Thread nD τ).loc main_arg8)) (m ((c.tc : Thread nD τ).loc main_arg9)))
            (m ((c.tc : Thread nD τ).loc main_arg10)) (m ((c.tc : Thread nD τ).loc main_arg11)))
          (m ((c.tc : Thread nD τ).loc main_arg12)) (m ((c.tc : Thread nD τ).loc main_arg13)) := rfl

/-- Ids in the table: the reference's result is each sample's score. -/
theorem ref_scores (u i : IVec S16384 32) (gu gi tu ti : FVec Ideal S100001x128 .f32) (W₁ : FVec Ideal S256x64 .f32)
    (b₁ : FVec Ideal S64 .f32) (W₂ : FVec Ideal S64x32 .f32) (b₂ : FVec Ideal S32 .f32) (W₃ : FVec Ideal S32x16 .f32)
    (b₃ : FVec Ideal S16 .f32) (W₄ : FVec Ideal S144x1 .f32) (b₄ : FVec Ideal S1 .f32)
    (hu : ∀ x, (u x).toNat < 100000) (hi : ∀ x, (i x).toNat < 100000) (r : Fin 16384) :
    refOut (take u gu) (take i gi) (ref3 (ref2 (ref1 (take u tu) (take i ti) W₁ b₁) W₂ b₂) W₃ b₃) W₄ b₄ (ix1 r)
      = scores u i gu gi tu ti W₁ b₁ W₂ b₂ W₃ b₃ W₄ b₄ r := by
  simp only [refOut_apply, ref3_apply, ref2_apply, ref1_apply, take_apply _ _ hu, take_apply _ _ hi, scores]

end Cert.Proof.Value

end
-- ==== Proof.Algebraic.lean ====
/-
  The algebraic claim: over the extended reals the kernel and the reference end with the same scores.
-/
module

public import proofs.«01_k».proof.Proof.Frames
public import proofs.«01_k».proof.Proof.Value.Kern
public import proofs.«01_k».proof.Proof.Value.Ref

@[expose] public section

noncomputable section

namespace Cert.Proof

open Idealize.ShloMosaic Idealize.SL.Sem

attribute [local instance] Cert.Kernel.Gen.facts Cert.KernelIdeal.Gen.facts Cert.ReferenceIdeal.Gen.facts Cert.Pre_ids_in_tables.Gen.facts

/-- From one launch memory's arguments, the reference's result is the kernel's. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (hp : Cert.Pre_KernelIdeal m)
    (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) :
    Cert.ReferenceIdeal.Value.res_main_v32 m' c = Cert.Proof.Ideal.scored (Cert.Proof.Ideal.V2r m) c := by
  obtain ⟨h0, h1, h2, h3, h4, h5, h6, h7, h8, h9, h10, h11, h12, h13⟩ := hagree
  have hr := Ids.range (F := Ideal) _ _ _ _ _ _ _ _ _ _ _ _ _ _ (hp c)
  rw [Value.res_eq, h0, h1, h2, h3, h4, h5, h6, h7, h8, h9, h10, h11, h12, h13]
  funext j
  refine Eq.trans ?_ (congrFun (Value.scored_eq (Cert.Proof.Ideal.V2r m) c) j).symm
  refine Eq.trans ?_ (Value.kern_scores m c (j 0)).symm
  rw [eq_ix1 j]
  exact Value.ref_scores _ _ _ _ _ _ _ _ _ _ _ _ _ _ (fun x => (hr x).1) (fun x => (hr x).2) (j 0)

/-- Over the extended reals, from one launch memory's arguments, the kernel and the reference end with the same result,
    the arguments unchanged. -/
theorem algebraic : Cert.algebraic_KernelIdeal_ReferenceIdeal := fun m g m' g' hp hagree =>
  ⟨fun c => Cert.Proof.Ideal.scored (Cert.Proof.Ideal.V2r m) c,
    (θ_run Cert.KernelIdeal.defs _ _).mono (fun r h c => ⟨(h.1 c).1,
      (h.1 c).2 Cert.KernelIdeal.main_arg0 (by decide),
      (h.1 c).2 Cert.KernelIdeal.main_arg1 (by decide),
      (h.1 c).2 Cert.KernelIdeal.main_arg2 (by decide),
      (h.1 c).2 Cert.KernelIdeal.main_arg3 (by decide),
      (h.1 c).2 Cert.KernelIdeal.main_arg4 (by decide),
      (h.1 c).2 Cert.KernelIdeal.main_arg5 (by decide),
      (h.1 c).2 Cert.KernelIdeal.main_arg6 (by decide),
      (h.1 c).2 Cert.KernelIdeal.main_arg7 (by decide),
      (h.1 c).2 Cert.KernelIdeal.main_arg8 (by decide),
      (h.1 c).2 Cert.KernelIdeal.main_arg9 (by decide),
      (h.1 c).2 Cert.KernelIdeal.main_arg10 (by decide),
      (h.1 c).2 Cert.KernelIdeal.main_arg11 (by decide),
      (h.1 c).2 Cert.KernelIdeal.main_arg12 (by decide),
      (h.1 c).2 Cert.KernelIdeal.main_arg13 (by decide)⟩)
      (Cert.Proof.Ideal.run_args m g (preOK_ideal m hp)),
    (θ_run Cert.ReferenceIdeal.defs _ _).mono (fun r h c => ⟨(h c).1.trans (results_eq m m' hp c (hagree c)), (h c).2⟩)
      (Cert.ReferenceIdeal.Value.run (F := Ideal) m' g')⟩

end Cert.Proof

end
-- ==== Proof.lean ====
/-
  The certificate's claims, assembled.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_ids_in_tables
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim := ⟨Cert.Kernel.Gen.facts, Cert.KernelIdeal.Gen.facts, Cert.ReferenceIdeal.Gen.facts, Cert.Pre_ids_in_tables.Gen.facts,
  frame_bits, frame_ideal, frame_ref, fun m ρ _ => frame_ref m ρ trivial, trivial, algebraic⟩

end Cert.Proof

end
